-- ==== Defs.lean ====
def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidKernelIdeal_finite_mid [hPre_finite_mid : Cert.Pre_finite_mid.Facts] (m : (ℓ : Loc Cert.MidKernelIdeal.nD Cert.MidKernelIdeal.τ Cert.MidKernelIdeal.sig) → Buf (Elt Ideal) ℓ) : Prop :=
  ∀ c : Dev Cert.MidKernelIdeal.nD,
    (Cert.Pre_finite_mid.fn (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite_mid [hPre_finite_mid : Cert.Pre_finite_mid.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite_mid.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4))) = (fun _ => 1#1)

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_HiddenKernel (m : (ℓ : Loc Cert.HiddenKernel.nD Cert.HiddenKernel.τ Cert.HiddenKernel.sig) → Buf (Elt Bits) ℓ) : Prop :=
  True

def Pre_HiddenKernelIdeal (m : (ℓ : Loc Cert.HiddenKernelIdeal.nD Cert.HiddenKernelIdeal.τ Cert.HiddenKernelIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_IntoKernel (m : (ℓ : Loc Cert.IntoKernel.nD Cert.IntoKernel.τ Cert.IntoKernel.sig) → Buf (Elt Bits) ℓ) : Prop :=
  True

def Pre_IntoKernelIdeal (m : (ℓ : Loc Cert.IntoKernelIdeal.nD Cert.IntoKernelIdeal.τ Cert.IntoKernelIdeal.sig) → Buf (Elt Ideal) ℓ) : Prop :=
  True

def Pre_IntoReferenceIdeal (m : (ℓ : Loc Cert.IntoReferenceIdeal.nD Cert.IntoReferenceIdeal.τ Cert.IntoReferenceIdeal.sig) → Buf (Elt Ideal) ℓ) : Prop :=
  True

def Pre_OntoKernel (m : (ℓ : Loc Cert.OntoKernel.nD Cert.OntoKernel.τ Cert.OntoKernel.sig) → Buf (Elt Bits) ℓ) : Prop :=
  True

def Pre_OntoKernelIdeal (m : (ℓ : Loc Cert.OntoKernelIdeal.nD Cert.OntoKernelIdeal.τ Cert.OntoKernelIdeal.sig) → Buf (Elt Ideal) ℓ) : Prop :=
  True

def Pre_OntoReferenceIdeal (m : (ℓ : Loc Cert.OntoReferenceIdeal.nD Cert.OntoReferenceIdeal.τ Cert.OntoReferenceIdeal.sig) → Buf (Elt Ideal) ℓ) : Prop :=
  True

def Pre_MixedKernel (m : (ℓ : Loc Cert.MixedKernel.nD Cert.MixedKernel.τ Cert.MixedKernel.sig) → Buf (Elt Bits) ℓ) : Prop :=
  True

def Pre_MixedKernelIdeal (m : (ℓ : Loc Cert.MixedKernelIdeal.nD Cert.MixedKernelIdeal.τ Cert.MixedKernelIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_DwInKernel (m : (ℓ : Loc Cert.DwInKernel.nD Cert.DwInKernel.τ Cert.DwInKernel.sig) → Buf (Elt Bits) ℓ) : Prop :=
  True

def Pre_DwInKernelIdeal (m : (ℓ : Loc Cert.DwInKernelIdeal.nD Cert.DwInKernelIdeal.τ Cert.DwInKernelIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4)
      ∧ r.2.mem ((c.tc : Thread Cert.DxKernel.nD Cert.DxKernel.τ).loc Cert.DxKernel.main_arg5) = m ((c.tc : Thread Cert.DxKernel.nD Cert.DxKernel.τ).loc Cert.DxKernel.main_arg5)
      ∧ r.2.mem ((c.tc : Thread Cert.DxKernel.nD Cert.DxKernel.τ).loc Cert.DxKernel.main_arg6) = m ((c.tc : Thread Cert.DxKernel.nD Cert.DxKernel.τ).loc Cert.DxKernel.main_arg6))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
      ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
      ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4))
      ∧ r.2.sem = fun _ => 0)

def quiescent_MidKernelIdeal_pre_finite_mid [hMidKernelIdeal : Cert.MidKernelIdeal.Facts] [hPre_finite_mid : Cert.Pre_finite_mid.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal_finite_mid m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4))
      ∧ r.2.sem = fun _ => 0)

def quiescent_MidReferenceIdeal_pre_finite_mid [hMidReferenceIdeal : Cert.MidReferenceIdeal.Facts] [hPre_finite_mid : Cert.Pre_finite_mid.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite_mid m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_HiddenKernel [hHiddenKernel : Cert.HiddenKernel.Facts] : Prop :=
  ∀ (m : (ℓ : Loc Cert.HiddenKernel.nD Cert.HiddenKernel.τ Cert.HiddenKernel.sig) → Buf (Elt Bits) ℓ) (g : Dev Cert.HiddenKernel.nD → PrngReg), Pre_HiddenKernel m →
    θ_run (Cert.HiddenKernel.defs (F := Bits)) (onTc (τ := Cert.HiddenKernel.τ) (Cert.HiddenKernel.main (F := Bits))) ⟨m, fun _ => 0, g⟩ (fun r => (∀ c : Dev Cert.HiddenKernel.nD,
      r.2.mem ((c.tc : Thread Cert.HiddenKernel.nD Cert.HiddenKernel.τ).loc Cert.HiddenKernel.main_arg0) = m ((c.tc : Thread Cert.HiddenKernel.nD Cert.HiddenKernel.τ).loc Cert.HiddenKernel.main_arg0)
      ∧ r.2.mem ((c.tc : Thread Cert.HiddenKernel.nD Cert.HiddenKernel.τ).loc Cert.HiddenKernel.main_arg1) = m ((c.tc : Thread Cert.HiddenKernel.nD Cert.HiddenKernel.τ).loc Cert.HiddenKernel.main_arg1)
      ∧ r.2.mem ((c.tc : Thread Cert.HiddenKernel.nD Cert.HiddenKernel.τ).loc Cert.HiddenKernel.main_arg2) = m ((c.tc : Thread Cert.HiddenKernel.nD Cert.HiddenKernel.τ).loc Cert.HiddenKernel.main_arg2)
      ∧ r.2.mem ((c.tc : Thread Cert.HiddenKernel.nD Cert.HiddenKernel.τ).loc Cert.HiddenKernel.main_arg3) = m ((c.tc : Thread Cert.HiddenKernel.nD Cert.HiddenKernel.τ).loc Cert.HiddenKernel.main_arg3))
      ∧ r.2.sem = fun _ => 0)

def quiescent_HiddenKernelIdeal [hHiddenKernelIdeal : Cert.HiddenKernelIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
      ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_IntoKernel [hIntoKernel : Cert.IntoKernel.Facts] : Prop :=
  ∀ (m : (ℓ : Loc Cert.IntoKernel.nD Cert.IntoKernel.τ Cert.IntoKernel.sig) → Buf (Elt Bits) ℓ) (g : Dev Cert.IntoKernel.nD → PrngReg), Pre_IntoKernel m →
    θ_run (Cert.IntoKernel.defs (F := Bits)) (onTc (τ := Cert.IntoKernel.τ) (Cert.IntoKernel.main (F := Bits))) ⟨m, fun _ => 0, g⟩ (fun r => (∀ c : Dev Cert.IntoKernel.nD,
      r.2.mem ((c.tc : Thread Cert.IntoKernel.nD Cert.IntoKernel.τ).loc Cert.IntoKernel.main_arg0) = m ((c.tc : Thread Cert.IntoKernel.nD Cert.IntoKernel.τ).loc Cert.IntoKernel.main_arg0)
      ∧ r.2.mem ((c.tc : Thread Cert.IntoKernel.nD Cert.IntoKernel.τ).loc Cert.IntoKernel.main_arg1) = m ((c.tc : Thread Cert.IntoKernel.nD Cert.IntoKernel.τ).loc Cert.IntoKernel.main_arg1)
      ∧ r.2.mem ((c.tc : Thread Cert.IntoKernel.nD Cert.IntoKernel.τ).loc Cert.IntoKernel.main_arg2) = m ((c.tc : Thread Cert.IntoKernel.nD Cert.IntoKernel.τ).loc Cert.IntoKernel.main_arg2))
      ∧ r.2.sem = fun _ => 0)

def quiescent_IntoKernelIdeal [hIntoKernelIdeal : Cert.IntoKernelIdeal.Facts] : Prop :=
  ∀ (m : (ℓ : Loc Cert.IntoKernelIdeal.nD Cert.IntoKernelIdeal.τ Cert.IntoKernelIdeal.sig) → Buf (Elt Ideal) ℓ) (g : Dev Cert.IntoKernelIdeal.nD → PrngReg), Pre_IntoKernelIdeal m →
    θ_run (Cert.IntoKernelIdeal.defs (F := Ideal)) (onTc (τ := Cert.IntoKernelIdeal.τ) (Cert.IntoKernelIdeal.main (F := Ideal))) ⟨m, fun _ => 0, g⟩ (fun r => (∀ c : Dev Cert.IntoKernelIdeal.nD,
      r.2.mem ((c.tc : Thread Cert.IntoKernelIdeal.nD Cert.IntoKernelIdeal.τ).loc Cert.IntoKernelIdeal.main_arg0) = m ((c.tc : Thread Cert.IntoKernelIdeal.nD Cert.IntoKernelIdeal.τ).loc Cert.IntoKernelIdeal.main_arg0)
      ∧ r.2.mem ((c.tc : Thread Cert.IntoKernelIdeal.nD Cert.IntoKernelIdeal.τ).loc Cert.IntoKernelIdeal.main_arg1) = m ((c.tc : Thread Cert.IntoKernelIdeal.nD Cert.IntoKernelIdeal.τ).loc Cert.IntoKernelIdeal.main_arg1)
      ∧ r.2.mem ((c.tc : Thread Cert.IntoKernelIdeal.nD Cert.IntoKernelIdeal.τ).loc Cert.IntoKernelIdeal.main_arg2) = m ((c.tc : Thread Cert.IntoKernelIdeal.nD Cert.IntoKernelIdeal.τ).loc Cert.IntoKernelIdeal.main_arg2))
      ∧ r.2.sem = fun _ => 0)

def quiescent_IntoReferenceIdeal [hIntoReferenceIdeal : Cert.IntoReferenceIdeal.Facts] : Prop :=
  ∀ (m : (ℓ : Loc Cert.IntoReferenceIdeal.nD Cert.IntoReferenceIdeal.τ Cert.IntoReferenceIdeal.sig) → Buf (Elt Ideal) ℓ) (g : Dev Cert.IntoReferenceIdeal.nD → PrngReg), Pre_IntoReferenceIdeal m →
    θ_run (Cert.IntoReferenceIdeal.defs (F := Ideal)) (onTc (τ := Cert.IntoReferenceIdeal.τ) (Cert.IntoReferenceIdeal.main (F := Ideal))) ⟨m, fun _ => 0, g⟩ (fun r => (∀ c : Dev Cert.IntoReferenceIdeal.nD,
      r.2.mem ((c.tc : Thread Cert.IntoReferenceIdeal.nD Cert.IntoReferenceIdeal.τ).loc Cert.IntoReferenceIdeal.main_arg0) = m ((c.tc : Thread Cert.IntoReferenceIdeal.nD Cert.IntoReferenceIdeal.τ).loc Cert.IntoReferenceIdeal.main_arg0)
      ∧ r.2.mem ((c.tc : Thread Cert.IntoReferenceIdeal.nD Cert.IntoReferenceIdeal.τ).loc Cert.IntoReferenceIdeal.main_arg1) = m ((c.tc : Thread Cert.IntoReferenceIdeal.nD Cert.IntoReferenceIdeal.τ).loc Cert.IntoReferenceIdeal.main_arg1)
      ∧ r.2.mem ((c.tc : Thread Cert.IntoReferenceIdeal.nD Cert.IntoReferenceIdeal.τ).loc Cert.IntoReferenceIdeal.main_arg2) = m ((c.tc : Thread Cert.IntoReferenceIdeal.nD Cert.IntoReferenceIdeal.τ).loc Cert.IntoReferenceIdeal.main_arg2))
      ∧ r.2.sem = fun _ => 0)

def quiescent_OntoKernel [hOntoKernel : Cert.OntoKernel.Facts] : Prop :=
  ∀ (m : (ℓ : Loc Cert.OntoKernel.nD Cert.OntoKernel.τ Cert.OntoKernel.sig) → Buf (Elt Bits) ℓ) (g : Dev Cert.OntoKernel.nD → PrngReg), Pre_OntoKernel m →
    θ_run (Cert.OntoKernel.defs (F := Bits)) (onTc (τ := Cert.OntoKernel.τ) (Cert.OntoKernel.main (F := Bits))) ⟨m, fun _ => 0, g⟩ (fun r => (∀ c : Dev Cert.OntoKernel.nD,
      r.2.mem ((c.tc : Thread Cert.OntoKernel.nD Cert.OntoKernel.τ).loc Cert.OntoKernel.main_arg0) = m ((c.tc : Thread Cert.OntoKernel.nD Cert.OntoKernel.τ).loc Cert.OntoKernel.main_arg0)
      ∧ r.2.mem ((c.tc : Thread Cert.OntoKernel.nD Cert.OntoKernel.τ).loc Cert.OntoKernel.main_arg1) = m ((c.tc : Thread Cert.OntoKernel.nD Cert.OntoKernel.τ).loc Cert.OntoKernel.main_arg1)
      ∧ r.2.mem ((c.tc : Thread Cert.OntoKernel.nD Cert.OntoKernel.τ).loc Cert.OntoKernel.main_arg2) = m ((c.tc : Thread Cert.OntoKernel.nD Cert.OntoKernel.τ).loc Cert.OntoKernel.main_arg2))
      ∧ r.2.sem = fun _ => 0)

def quiescent_OntoKernelIdeal [hOntoKernelIdeal : Cert.OntoKernelIdeal.Facts] : Prop :=
  ∀ (m : (ℓ : Loc Cert.OntoKernelIdeal.nD Cert.OntoKernelIdeal.τ Cert.OntoKernelIdeal.sig) → Buf (Elt Ideal) ℓ) (g : Dev Cert.OntoKernelIdeal.nD → PrngReg), Pre_OntoKernelIdeal m →
    θ_run (Cert.OntoKernelIdeal.defs (F := Ideal)) (onTc (τ := Cert.OntoKernelIdeal.τ) (Cert.OntoKernelIdeal.main (F := Ideal))) ⟨m, fun _ => 0, g⟩ (fun r => (∀ c : Dev Cert.OntoKernelIdeal.nD,
      r.2.mem ((c.tc : Thread Cert.OntoKernelIdeal.nD Cert.OntoKernelIdeal.τ).loc Cert.OntoKernelIdeal.main_arg0) = m ((c.tc : Thread Cert.OntoKernelIdeal.nD Cert.OntoKernelIdeal.τ).loc Cert.OntoKernelIdeal.main_arg0)
      ∧ r.2.mem ((c.tc : Thread Cert.OntoKernelIdeal.nD Cert.OntoKernelIdeal.τ).loc Cert.OntoKernelIdeal.main_arg1) = m ((c.tc : Thread Cert.OntoKernelIdeal.nD Cert.OntoKernelIdeal.τ).loc Cert.OntoKernelIdeal.main_arg1)
      ∧ r.2.mem ((c.tc : Thread Cert.OntoKernelIdeal.nD Cert.OntoKernelIdeal.τ).loc Cert.OntoKernelIdeal.main_arg2) = m ((c.tc : Thread Cert.OntoKernelIdeal.nD Cert.OntoKernelIdeal.τ).loc Cert.OntoKernelIdeal.main_arg2))
      ∧ r.2.sem = fun _ => 0)

def quiescent_OntoReferenceIdeal [hOntoReferenceIdeal : Cert.OntoReferenceIdeal.Facts] : Prop :=
  ∀ (m : (ℓ : Loc Cert.OntoReferenceIdeal.nD Cert.OntoReferenceIdeal.τ Cert.OntoReferenceIdeal.sig) → Buf (Elt Ideal) ℓ) (g : Dev Cert.OntoReferenceIdeal.nD → PrngReg), Pre_OntoReferenceIdeal m →
    θ_run (Cert.OntoReferenceIdeal.defs (F := Ideal)) (onTc (τ := Cert.OntoReferenceIdeal.τ) (Cert.OntoReferenceIdeal.main (F := Ideal))) ⟨m, fun _ => 0, g⟩ (fun r => (∀ c : Dev Cert.OntoReferenceIdeal.nD,
      r.2.mem ((c.tc : Thread Cert.OntoReferenceIdeal.nD Cert.OntoReferenceIdeal.τ).loc Cert.OntoReferenceIdeal.main_arg0) = m ((c.tc : Thread Cert.OntoReferenceIdeal.nD Cert.OntoReferenceIdeal.τ).loc Cert.OntoReferenceIdeal.main_arg0)
      ∧ r.2.mem ((c.tc : Thread Cert.OntoReferenceIdeal.nD Cert.OntoReferenceIdeal.τ).loc Cert.OntoReferenceIdeal.main_arg1) = m ((c.tc : Thread Cert.OntoReferenceIdeal.nD Cert.OntoReferenceIdeal.τ).loc Cert.OntoReferenceIdeal.main_arg1)
      ∧ r.2.mem ((c.tc : Thread Cert.OntoReferenceIdeal.nD Cert.OntoReferenceIdeal.τ).loc Cert.OntoReferenceIdeal.main_arg2) = m ((c.tc : Thread Cert.OntoReferenceIdeal.nD Cert.OntoReferenceIdeal.τ).loc Cert.OntoReferenceIdeal.main_arg2))
      ∧ r.2.sem = fun _ => 0)

def quiescent_MixedKernel [hMixedKernel : Cert.MixedKernel.Facts] : Prop :=
  ∀ (m : (ℓ : Loc Cert.MixedKernel.nD Cert.MixedKernel.τ Cert.MixedKernel.sig) → Buf (Elt Bits) ℓ) (g : Dev Cert.MixedKernel.nD → PrngReg), Pre_MixedKernel m →
    θ_run (Cert.MixedKernel.defs (F := Bits)) (onTc (τ := Cert.MixedKernel.τ) (Cert.MixedKernel.main (F := Bits))) ⟨m, fun _ => 0, g⟩ (fun r => (∀ c : Dev Cert.MixedKernel.nD,
      r.2.mem ((c.tc : Thread Cert.MixedKernel.nD Cert.MixedKernel.τ).loc Cert.MixedKernel.main_arg0) = m ((c.tc : Thread Cert.MixedKernel.nD Cert.MixedKernel.τ).loc Cert.MixedKernel.main_arg0)
      ∧ r.2.mem ((c.tc : Thread Cert.MixedKernel.nD Cert.MixedKernel.τ).loc Cert.MixedKernel.main_arg1) = m ((c.tc : Thread Cert.MixedKernel.nD Cert.MixedKernel.τ).loc Cert.MixedKernel.main_arg1))
      ∧ r.2.sem = fun _ => 0)

def quiescent_MixedKernelIdeal [hMixedKernelIdeal : Cert.MixedKernelIdeal.Facts] : Prop :=
  ∀ (m : (ℓ : Loc Cert.MixedKernelIdeal.nD Cert.MixedKernelIdeal.τ Cert.MixedKernelIdeal.sig) → Buf (Elt Ideal) ℓ) (g : Dev Cert.MixedKernelIdeal.nD → PrngReg), Pre_MixedKernelIdeal m →
    θ_run (Cert.MixedKernelIdeal.defs (F := Ideal)) (onTc (τ := Cert.MixedKernelIdeal.τ) (Cert.MixedKernelIdeal.main (F := Ideal))) ⟨m, fun _ => 0, g⟩ (fun r => (∀ c : Dev Cert.MixedKernelIdeal.nD,
      r.2.mem ((c.tc : Thread Cert.MixedKernelIdeal.nD Cert.MixedKernelIdeal.τ).loc Cert.MixedKernelIdeal.main_arg0) = m ((c.tc : Thread Cert.MixedKernelIdeal.nD Cert.MixedKernelIdeal.τ).loc Cert.MixedKernelIdeal.main_arg0)
      ∧ r.2.mem ((c.tc : Thread Cert.MixedKernelIdeal.nD Cert.MixedKernelIdeal.τ).loc Cert.MixedKernelIdeal.main_arg1) = m ((c.tc : Thread Cert.MixedKernelIdeal.nD Cert.MixedKernelIdeal.τ).loc Cert.MixedKernelIdeal.main_arg1))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1)
      ∧ r.2.mem ((c.tc : Thread Cert.BackKernel.nD Cert.BackKernel.τ).loc Cert.BackKernel.main_arg2) = m ((c.tc : Thread Cert.BackKernel.nD Cert.BackKernel.τ).loc Cert.BackKernel.main_arg2)
      ∧ r.2.mem ((c.tc : Thread Cert.BackKernel.nD Cert.BackKernel.τ).loc Cert.BackKernel.main_arg3) = m ((c.tc : Thread Cert.BackKernel.nD Cert.BackKernel.τ).loc Cert.BackKernel.main_arg3)
      ∧ r.2.mem ((c.tc : Thread Cert.BackKernel.nD Cert.BackKernel.τ).loc Cert.BackKernel.main_arg4) = m ((c.tc : Thread Cert.BackKernel.nD Cert.BackKernel.τ).loc Cert.BackKernel.main_arg4))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
      ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
      ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
      ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4))
      ∧ r.2.sem = fun _ => 0)

def quiescent_DwInKernel [hDwInKernel : Cert.DwInKernel.Facts] : Prop :=
  ∀ (m : (ℓ : Loc Cert.DwInKernel.nD Cert.DwInKernel.τ Cert.DwInKernel.sig) → Buf (Elt Bits) ℓ) (g : Dev Cert.DwInKernel.nD → PrngReg), Pre_DwInKernel m →
    θ_run (Cert.DwInKernel.defs (F := Bits)) (onTc (τ := Cert.DwInKernel.τ) (Cert.DwInKernel.main (F := Bits))) ⟨m, fun _ => 0, g⟩ (fun r => (∀ c : Dev Cert.DwInKernel.nD,
      r.2.mem ((c.tc : Thread Cert.DwInKernel.nD Cert.DwInKernel.τ).loc Cert.DwInKernel.main_arg0) = m ((c.tc : Thread Cert.DwInKernel.nD Cert.DwInKernel.τ).loc Cert.DwInKernel.main_arg0)
      ∧ r.2.mem ((c.tc : Thread Cert.DwInKernel.nD Cert.DwInKernel.τ).loc Cert.DwInKernel.main_arg1) = m ((c.tc : Thread Cert.DwInKernel.nD Cert.DwInKernel.τ).loc Cert.DwInKernel.main_arg1))
      ∧ r.2.sem = fun _ => 0)

def quiescent_DwInKernelIdeal [hDwInKernelIdeal : Cert.DwInKernelIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg), Pre_DwInKernelIdeal m →
    θ_run (Cert.DwInKernelIdeal.defs (F := Ideal)) (onTc (τ := Cert.DwInKernelIdeal.τ) (Cert.DwInKernelIdeal.main (F := Ideal))) ⟨m, fun _ => 0, g⟩ (fun r => (∀ c : Dev Cert.DwInKernelIdeal.nD,
      r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
      ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)) →
    ∃ (v0 : (c : Dev Cert.FwdKernelIdeal.nD) → Buf (Elt Ideal) ((c.tc : Thread Cert.FwdKernelIdeal.nD Cert.FwdKernelIdeal.τ).loc Cert.FwdKernelIdeal.main_v9_0)) (v1 : (c : Dev Cert.FwdKernelIdeal.nD) → Buf (Elt Ideal) ((c.tc : Thread Cert.FwdKernelIdeal.nD Cert.FwdKernelIdeal.τ).loc Cert.FwdKernelIdeal.main_v9_1)) (v2 : (c : Dev Cert.FwdKernelIdeal.nD) → Buf (Elt Ideal) ((c.tc : Thread Cert.FwdKernelIdeal.nD Cert.FwdKernelIdeal.τ).loc Cert.FwdKernelIdeal.main_v9_2)) (v3 : (c : Dev Cert.FwdKernelIdeal.nD) → Buf (Elt Ideal) ((c.tc : Thread Cert.FwdKernelIdeal.nD Cert.FwdKernelIdeal.τ).loc Cert.FwdKernelIdeal.main_v9_3)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v9_0) = v0 c
          ∧ r.2.mem ((c.tc : Thread Cert.FwdKernelIdeal.nD Cert.FwdKernelIdeal.τ).loc Cert.FwdKernelIdeal.main_v9_1) = v1 c
          ∧ r.2.mem ((c.tc : Thread Cert.FwdKernelIdeal.nD Cert.FwdKernelIdeal.τ).loc Cert.FwdKernelIdeal.main_v9_2) = v2 c
          ∧ r.2.mem ((c.tc : Thread Cert.FwdKernelIdeal.nD Cert.FwdKernelIdeal.τ).loc Cert.FwdKernelIdeal.main_v9_3) = v3 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v20) = v0 c
          ∧ r.2.mem ((c.tc : Thread Cert.FwdReferenceIdeal.nD Cert.FwdReferenceIdeal.τ).loc Cert.FwdReferenceIdeal.main_v21) = v1 c
          ∧ r.2.mem ((c.tc : Thread Cert.FwdReferenceIdeal.nD Cert.FwdReferenceIdeal.τ).loc Cert.FwdReferenceIdeal.main_v25) = v2 c
          ∧ r.2.mem ((c.tc : Thread Cert.FwdReferenceIdeal.nD Cert.FwdReferenceIdeal.τ).loc Cert.FwdReferenceIdeal.main_v29) = v3 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)
      ∧ m' ((c.tc : Thread Cert.DxReferenceIdeal.nD Cert.DxReferenceIdeal.τ).loc Cert.DxReferenceIdeal.main_arg5) = m ((c.tc : Thread Cert.DxKernelIdeal.nD Cert.DxKernelIdeal.τ).loc Cert.DxKernelIdeal.main_arg5)
      ∧ m' ((c.tc : Thread Cert.DxReferenceIdeal.nD Cert.DxReferenceIdeal.τ).loc Cert.DxReferenceIdeal.main_arg6) = m ((c.tc : Thread Cert.DxKernelIdeal.nD Cert.DxKernelIdeal.τ).loc Cert.DxKernelIdeal.main_arg6)) →
    ∃ (v0 : (c : Dev Cert.DxKernelIdeal.nD) → Buf (Elt Ideal) ((c.tc : Thread Cert.DxKernelIdeal.nD Cert.DxKernelIdeal.τ).loc Cert.DxKernelIdeal.main_v15_0)) (v1 : (c : Dev Cert.DxKernelIdeal.nD) → Buf (Elt Ideal) ((c.tc : Thread Cert.DxKernelIdeal.nD Cert.DxKernelIdeal.τ).loc Cert.DxKernelIdeal.main_v15_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v15_0) = v0 c
          ∧ r.2.mem ((c.tc : Thread Cert.DxKernelIdeal.nD Cert.DxKernelIdeal.τ).loc Cert.DxKernelIdeal.main_v15_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
          ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
          ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v41) = v0 c
          ∧ r.2.mem ((c.tc : Thread Cert.DxReferenceIdeal.nD Cert.DxReferenceIdeal.τ).loc Cert.DxReferenceIdeal.main_v42) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6))

def preserves_MidKernel_MidKernelIdeal : Prop :=
  True

def algebraic_MidKernelIdeal_MidReferenceIdeal_pre_finite_mid [hMidKernelIdeal : Cert.MidKernelIdeal.Facts] [hMidReferenceIdeal : Cert.MidReferenceIdeal.Facts] [hPre_finite_mid : Cert.Pre_finite_mid.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal_finite_mid m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)) →
    ∃ (v0 : (c : Dev Cert.MidKernelIdeal.nD) → Buf (Elt Ideal) ((c.tc : Thread Cert.MidKernelIdeal.nD Cert.MidKernelIdeal.τ).loc Cert.MidKernelIdeal.main_v17_0)) (v1 : (c : Dev Cert.MidKernelIdeal.nD) → Buf (Elt Ideal) ((c.tc : Thread Cert.MidKernelIdeal.nD Cert.MidKernelIdeal.τ).loc Cert.MidKernelIdeal.main_v17_1)) (v2 : (c : Dev Cert.MidKernelIdeal.nD) → Buf (Elt Ideal) ((c.tc : Thread Cert.MidKernelIdeal.nD Cert.MidKernelIdeal.τ).loc Cert.MidKernelIdeal.main_v17_2)) (v3 : (c : Dev Cert.MidKernelIdeal.nD) → Buf (Elt Ideal) ((c.tc : Thread Cert.MidKernelIdeal.nD Cert.MidKernelIdeal.τ).loc Cert.MidKernelIdeal.main_v17_3)) (v4 : (c : Dev Cert.MidKernelIdeal.nD) → Buf (Elt Ideal) ((c.tc : Thread Cert.MidKernelIdeal.nD Cert.MidKernelIdeal.τ).loc Cert.MidKernelIdeal.main_v17_4)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v17_0) = v0 c
          ∧ r.2.mem ((c.tc : Thread Cert.MidKernelIdeal.nD Cert.MidKernelIdeal.τ).loc Cert.MidKernelIdeal.main_v17_1) = v1 c
          ∧ r.2.mem ((c.tc : Thread Cert.MidKernelIdeal.nD Cert.MidKernelIdeal.τ).loc Cert.MidKernelIdeal.main_v17_2) = v2 c
          ∧ r.2.mem ((c.tc : Thread Cert.MidKernelIdeal.nD Cert.MidKernelIdeal.τ).loc Cert.MidKernelIdeal.main_v17_3) = v3 c
          ∧ r.2.mem ((c.tc : Thread Cert.MidKernelIdeal.nD Cert.MidKernelIdeal.τ).loc Cert.MidKernelIdeal.main_v17_4) = v4 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v19) = v0 c
          ∧ r.2.mem ((c.tc : Thread Cert.MidReferenceIdeal.nD Cert.MidReferenceIdeal.τ).loc Cert.MidReferenceIdeal.main_v22) = v1 c
          ∧ r.2.mem ((c.tc : Thread Cert.MidReferenceIdeal.nD Cert.MidReferenceIdeal.τ).loc Cert.MidReferenceIdeal.main_v24) = v2 c
          ∧ r.2.mem ((c.tc : Thread Cert.MidReferenceIdeal.nD Cert.MidReferenceIdeal.τ).loc Cert.MidReferenceIdeal.main_v29) = v3 c
          ∧ r.2.mem ((c.tc : Thread Cert.MidReferenceIdeal.nD Cert.MidReferenceIdeal.τ).loc Cert.MidReferenceIdeal.main_v34) = v4 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)) →
    ∃ (v0 : (c : Dev Cert.SmallKernelIdeal.nD) → Buf (Elt Ideal) ((c.tc : Thread Cert.SmallKernelIdeal.nD Cert.SmallKernelIdeal.τ).loc Cert.SmallKernelIdeal.main_v0_0)) (v1 : (c : Dev Cert.SmallKernelIdeal.nD) → Buf (Elt Ideal) ((c.tc : Thread Cert.SmallKernelIdeal.nD Cert.SmallKernelIdeal.τ).loc Cert.SmallKernelIdeal.main_v0_1)) (v2 : (c : Dev Cert.SmallKernelIdeal.nD) → Buf (Elt Ideal) ((c.tc : Thread Cert.SmallKernelIdeal.nD Cert.SmallKernelIdeal.τ).loc Cert.SmallKernelIdeal.main_v0_2)) (v3 : (c : Dev Cert.SmallKernelIdeal.nD) → Buf (Elt Ideal) ((c.tc : Thread Cert.SmallKernelIdeal.nD Cert.SmallKernelIdeal.τ).loc Cert.SmallKernelIdeal.main_v0_3)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v0_0) = v0 c
          ∧ r.2.mem ((c.tc : Thread Cert.SmallKernelIdeal.nD Cert.SmallKernelIdeal.τ).loc Cert.SmallKernelIdeal.main_v0_1) = v1 c
          ∧ r.2.mem ((c.tc : Thread Cert.SmallKernelIdeal.nD Cert.SmallKernelIdeal.τ).loc Cert.SmallKernelIdeal.main_v0_2) = v2 c
          ∧ r.2.mem ((c.tc : Thread Cert.SmallKernelIdeal.nD Cert.SmallKernelIdeal.τ).loc Cert.SmallKernelIdeal.main_v0_3) = v3 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_arg1) = v0 c
          ∧ r.2.mem ((c.tc : Thread Cert.SmallReferenceIdeal.nD Cert.SmallReferenceIdeal.τ).loc Cert.SmallReferenceIdeal.main_v23) = v1 c
          ∧ r.2.mem ((c.tc : Thread Cert.SmallReferenceIdeal.nD Cert.SmallReferenceIdeal.τ).loc Cert.SmallReferenceIdeal.main_v4) = v2 c
          ∧ r.2.mem ((c.tc : Thread Cert.SmallReferenceIdeal.nD Cert.SmallReferenceIdeal.τ).loc Cert.SmallReferenceIdeal.main_v10) = v3 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_HiddenKernel_HiddenKernelIdeal : Prop :=
  True

def algebraic_HiddenKernelIdeal_HiddenReferenceIdeal [hHiddenKernelIdeal : Cert.HiddenKernelIdeal.Facts] [hHiddenReferenceIdeal : Cert.HiddenReferenceIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenKernelIdeal m →
    (∀ c : Dev Cert.HiddenKernelIdeal.nD,
      m' ((c.tc : Thread Cert.HiddenReferenceIdeal.nD Cert.HiddenReferenceIdeal.τ).loc Cert.HiddenReferenceIdeal.main_arg0) = m ((c.tc : Thread Cert.HiddenKernelIdeal.nD Cert.HiddenKernelIdeal.τ).loc Cert.HiddenKernelIdeal.main_arg0)
      ∧ m' ((c.tc : Thread Cert.HiddenReferenceIdeal.nD Cert.HiddenReferenceIdeal.τ).loc Cert.HiddenReferenceIdeal.main_arg1) = m ((c.tc : Thread Cert.HiddenKernelIdeal.nD Cert.HiddenKernelIdeal.τ).loc Cert.HiddenKernelIdeal.main_arg1)
      ∧ m' ((c.tc : Thread Cert.HiddenReferenceIdeal.nD Cert.HiddenReferenceIdeal.τ).loc Cert.HiddenReferenceIdeal.main_arg2) = m ((c.tc : Thread Cert.HiddenKernelIdeal.nD Cert.HiddenKernelIdeal.τ).loc Cert.HiddenKernelIdeal.main_arg2)
      ∧ m' ((c.tc : Thread Cert.HiddenReferenceIdeal.nD Cert.HiddenReferenceIdeal.τ).loc Cert.HiddenReferenceIdeal.main_arg3) = m ((c.tc : Thread Cert.HiddenKernelIdeal.nD Cert.HiddenKernelIdeal.τ).loc Cert.HiddenKernelIdeal.main_arg3)) →
    ∃ (v0 : (c : Dev Cert.HiddenKernelIdeal.nD) → Buf (Elt Ideal) ((c.tc : Thread Cert.HiddenKernelIdeal.nD Cert.HiddenKernelIdeal.τ).loc Cert.HiddenKernelIdeal.main_v3_0)) (v1 : (c : Dev Cert.HiddenKernelIdeal.nD) → Buf (Elt Ideal) ((c.tc : Thread Cert.HiddenKernelIdeal.nD Cert.HiddenKernelIdeal.τ).loc Cert.HiddenKernelIdeal.main_v3_1)) (v2 : (c : Dev Cert.HiddenKernelIdeal.nD) → Buf (Elt Ideal) ((c.tc : Thread Cert.HiddenKernelIdeal.nD Cert.HiddenKernelIdeal.τ).loc Cert.HiddenKernelIdeal.main_v3_2)) (v3 : (c : Dev Cert.HiddenKernelIdeal.nD) → Buf (Elt Ideal) ((c.tc : Thread Cert.HiddenKernelIdeal.nD Cert.HiddenKernelIdeal.τ).loc Cert.HiddenKernelIdeal.main_v3_3)),
      θ_run (Cert.HiddenKernelIdeal.defs (F := Ideal)) (onTc (τ := Cert.HiddenKernelIdeal.τ) (Cert.HiddenKernelIdeal.main (F := Ideal))) ⟨m, fun _ => 0, g⟩ (fun r => ∀ c : Dev Cert.HiddenKernelIdeal.nD,
          r.2.mem ((c.tc : Thread Cert.HiddenKernelIdeal.nD Cert.HiddenKernelIdeal.τ).loc Cert.HiddenKernelIdeal.main_v3_0) = v0 c
          ∧ r.2.mem ((c.tc : Thread Cert.HiddenKernelIdeal.nD Cert.HiddenKernelIdeal.τ).loc Cert.HiddenKernelIdeal.main_v3_1) = v1 c
          ∧ r.2.mem ((c.tc : Thread Cert.HiddenKernelIdeal.nD Cert.HiddenKernelIdeal.τ).loc Cert.HiddenKernelIdeal.main_v3_2) = v2 c
          ∧ r.2.mem ((c.tc : Thread Cert.HiddenKernelIdeal.nD Cert.HiddenKernelIdeal.τ).loc Cert.HiddenKernelIdeal.main_v3_3) = v3 c
          ∧ r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
          ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
          ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
          ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_arg1) = v0 c
          ∧ r.2.mem ((c.tc : Thread Cert.HiddenReferenceIdeal.nD Cert.HiddenReferenceIdeal.τ).loc Cert.HiddenReferenceIdeal.main_v23) = v1 c
          ∧ r.2.mem ((c.tc : Thread Cert.HiddenReferenceIdeal.nD Cert.HiddenReferenceIdeal.τ).loc Cert.HiddenReferenceIdeal.main_v4) = v2 c
          ∧ r.2.mem ((c.tc : Thread Cert.HiddenReferenceIdeal.nD Cert.HiddenReferenceIdeal.τ).loc Cert.HiddenReferenceIdeal.main_v10) = v3 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v3_0)) (v1 : (c : Dev Cert.InKernelIdeal.nD) → Buf (Elt Ideal) ((c.tc : Thread Cert.InKernelIdeal.nD Cert.InKernelIdeal.τ).loc Cert.InKernelIdeal.main_v3_1)) (v2 : (c : Dev Cert.InKernelIdeal.nD) → Buf (Elt Ideal) ((c.tc : Thread Cert.InKernelIdeal.nD Cert.InKernelIdeal.τ).loc Cert.InKernelIdeal.main_v3_2)) (v3 : (c : Dev Cert.InKernelIdeal.nD) → Buf (Elt Ideal) ((c.tc : Thread Cert.InKernelIdeal.nD Cert.InKernelIdeal.τ).loc Cert.InKernelIdeal.main_v3_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3_0) = v0 c
          ∧ r.2.mem ((c.tc : Thread Cert.InKernelIdeal.nD Cert.InKernelIdeal.τ).loc Cert.InKernelIdeal.main_v3_1) = v1 c
          ∧ r.2.mem ((c.tc : Thread Cert.InKernelIdeal.nD Cert.InKernelIdeal.τ).loc Cert.InKernelIdeal.main_v3_2) = v2 c
          ∧ r.2.mem ((c.tc : Thread Cert.InKernelIdeal.nD Cert.InKernelIdeal.τ).loc Cert.InKernelIdeal.main_v3_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_arg1) = v0 c
          ∧ r.2.mem ((c.tc : Thread Cert.InReferenceIdeal.nD Cert.InReferenceIdeal.τ).loc Cert.InReferenceIdeal.main_v23) = v1 c
          ∧ r.2.mem ((c.tc : Thread Cert.InReferenceIdeal.nD Cert.InReferenceIdeal.τ).loc Cert.InReferenceIdeal.main_v4) = v2 c
          ∧ r.2.mem ((c.tc : Thread Cert.InReferenceIdeal.nD Cert.InReferenceIdeal.τ).loc Cert.InReferenceIdeal.main_v10) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)) (v2 : (c : Dev Cert.OutKernelIdeal.nD) → Buf (Elt Ideal) ((c.tc : Thread Cert.OutKernelIdeal.nD Cert.OutKernelIdeal.τ).loc Cert.OutKernelIdeal.main_v3_2)) (v3 : (c : Dev Cert.OutKernelIdeal.nD) → Buf (Elt Ideal) ((c.tc : Thread Cert.OutKernelIdeal.nD Cert.OutKernelIdeal.τ).loc Cert.OutKernelIdeal.main_v3_3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3_0) = v0 c
          ∧ r.2.mem ((c.tc : Thread Cert.OutKernelIdeal.nD Cert.OutKernelIdeal.τ).loc Cert.OutKernelIdeal.main_v3_1) = v1 c
          ∧ r.2.mem ((c.tc : Thread Cert.OutKernelIdeal.nD Cert.OutKernelIdeal.τ).loc Cert.OutKernelIdeal.main_v3_2) = v2 c
          ∧ r.2.mem ((c.tc : Thread Cert.OutKernelIdeal.nD Cert.OutKernelIdeal.τ).loc Cert.OutKernelIdeal.main_v3_3) = v3 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_arg1) = v0 c
          ∧ r.2.mem ((c.tc : Thread Cert.OutReferenceIdeal.nD Cert.OutReferenceIdeal.τ).loc Cert.OutReferenceIdeal.main_v23) = v1 c
          ∧ r.2.mem ((c.tc : Thread Cert.OutReferenceIdeal.nD Cert.OutReferenceIdeal.τ).loc Cert.OutReferenceIdeal.main_v4) = v2 c
          ∧ r.2.mem ((c.tc : Thread Cert.OutReferenceIdeal.nD Cert.OutReferenceIdeal.τ).loc Cert.OutReferenceIdeal.main_v10) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_IntoKernel_IntoKernelIdeal : Prop :=
  True

def algebraic_IntoKernelIdeal_IntoReferenceIdeal [hIntoKernelIdeal : Cert.IntoKernelIdeal.Facts] [hIntoReferenceIdeal : Cert.IntoReferenceIdeal.Facts] : Prop :=
  ∀ (m : (ℓ : Loc Cert.IntoKernelIdeal.nD Cert.IntoKernelIdeal.τ Cert.IntoKernelIdeal.sig) → Buf (Elt Ideal) ℓ) (g : Dev Cert.IntoKernelIdeal.nD → PrngReg)
    (m' : (ℓ : Loc Cert.IntoReferenceIdeal.nD Cert.IntoReferenceIdeal.τ Cert.IntoReferenceIdeal.sig) → Buf (Elt Ideal) ℓ) (g' : Dev Cert.IntoReferenceIdeal.nD → PrngReg), Pre_IntoKernelIdeal m →
    (∀ c : Dev Cert.IntoKernelIdeal.nD,
      m' ((c.tc : Thread Cert.IntoReferenceIdeal.nD Cert.IntoReferenceIdeal.τ).loc Cert.IntoReferenceIdeal.main_arg0) = m ((c.tc : Thread Cert.IntoKernelIdeal.nD Cert.IntoKernelIdeal.τ).loc Cert.IntoKernelIdeal.main_arg0)
      ∧ m' ((c.tc : Thread Cert.IntoReferenceIdeal.nD Cert.IntoReferenceIdeal.τ).loc Cert.IntoReferenceIdeal.main_arg1) = m ((c.tc : Thread Cert.IntoKernelIdeal.nD Cert.IntoKernelIdeal.τ).loc Cert.IntoKernelIdeal.main_arg1)
      ∧ m' ((c.tc : Thread Cert.IntoReferenceIdeal.nD Cert.IntoReferenceIdeal.τ).loc Cert.IntoReferenceIdeal.main_arg2) = m ((c.tc : Thread Cert.IntoKernelIdeal.nD Cert.IntoKernelIdeal.τ).loc Cert.IntoKernelIdeal.main_arg2)) →
    ∃ (v0 : (c : Dev Cert.IntoKernelIdeal.nD) → Buf (Elt Ideal) ((c.tc : Thread Cert.IntoKernelIdeal.nD Cert.IntoKernelIdeal.τ).loc Cert.IntoKernelIdeal.main_v4_0)) (v1 : (c : Dev Cert.IntoKernelIdeal.nD) → Buf (Elt Ideal) ((c.tc : Thread Cert.IntoKernelIdeal.nD Cert.IntoKernelIdeal.τ).loc Cert.IntoKernelIdeal.main_v4_1)),
      θ_run (Cert.IntoKernelIdeal.defs (F := Ideal)) (onTc (τ := Cert.IntoKernelIdeal.τ) (Cert.IntoKernelIdeal.main (F := Ideal))) ⟨m, fun _ => 0, g⟩ (fun r => ∀ c : Dev Cert.IntoKernelIdeal.nD,
          r.2.mem ((c.tc : Thread Cert.IntoKernelIdeal.nD Cert.IntoKernelIdeal.τ).loc Cert.IntoKernelIdeal.main_v4_0) = v0 c
          ∧ r.2.mem ((c.tc : Thread Cert.IntoKernelIdeal.nD Cert.IntoKernelIdeal.τ).loc Cert.IntoKernelIdeal.main_v4_1) = v1 c
          ∧ r.2.mem ((c.tc : Thread Cert.IntoKernelIdeal.nD Cert.IntoKernelIdeal.τ).loc Cert.IntoKernelIdeal.main_arg0) = m ((c.tc : Thread Cert.IntoKernelIdeal.nD Cert.IntoKernelIdeal.τ).loc Cert.IntoKernelIdeal.main_arg0)
          ∧ r.2.mem ((c.tc : Thread Cert.IntoKernelIdeal.nD Cert.IntoKernelIdeal.τ).loc Cert.IntoKernelIdeal.main_arg1) = m ((c.tc : Thread Cert.IntoKernelIdeal.nD Cert.IntoKernelIdeal.τ).loc Cert.IntoKernelIdeal.main_arg1)
          ∧ r.2.mem ((c.tc : Thread Cert.IntoKernelIdeal.nD Cert.IntoKernelIdeal.τ).loc Cert.IntoKernelIdeal.main_arg2) = m ((c.tc : Thread Cert.IntoKernelIdeal.nD Cert.IntoKernelIdeal.τ).loc Cert.IntoKernelIdeal.main_arg2))
      ∧ θ_run (Cert.IntoReferenceIdeal.defs (F := Ideal)) (onTc (τ := Cert.IntoReferenceIdeal.τ) (Cert.IntoReferenceIdeal.main (F := Ideal))) ⟨m', fun _ => 0, g'⟩ (fun r => ∀ c : Dev Cert.IntoReferenceIdeal.nD,
          r.2.mem ((c.tc : Thread Cert.IntoReferenceIdeal.nD Cert.IntoReferenceIdeal.τ).loc Cert.IntoReferenceIdeal.main_v13) = v0 c
          ∧ r.2.mem ((c.tc : Thread Cert.IntoReferenceIdeal.nD Cert.IntoReferenceIdeal.τ).loc Cert.IntoReferenceIdeal.main_v14) = v1 c
          ∧ r.2.mem ((c.tc : Thread Cert.IntoReferenceIdeal.nD Cert.IntoReferenceIdeal.τ).loc Cert.IntoReferenceIdeal.main_arg0) = m' ((c.tc : Thread Cert.IntoReferenceIdeal.nD Cert.IntoReferenceIdeal.τ).loc Cert.IntoReferenceIdeal.main_arg0)
          ∧ r.2.mem ((c.tc : Thread Cert.IntoReferenceIdeal.nD Cert.IntoReferenceIdeal.τ).loc Cert.IntoReferenceIdeal.main_arg1) = m' ((c.tc : Thread Cert.IntoReferenceIdeal.nD Cert.IntoReferenceIdeal.τ).loc Cert.IntoReferenceIdeal.main_arg1)
          ∧ r.2.mem ((c.tc : Thread Cert.IntoReferenceIdeal.nD Cert.IntoReferenceIdeal.τ).loc Cert.IntoReferenceIdeal.main_arg2) = m' ((c.tc : Thread Cert.IntoReferenceIdeal.nD Cert.IntoReferenceIdeal.τ).loc Cert.IntoReferenceIdeal.main_arg2))

def preserves_OntoKernel_OntoKernelIdeal : Prop :=
  True

def algebraic_OntoKernelIdeal_OntoReferenceIdeal [hOntoKernelIdeal : Cert.OntoKernelIdeal.Facts] [hOntoReferenceIdeal : Cert.OntoReferenceIdeal.Facts] : Prop :=
  ∀ (m : (ℓ : Loc Cert.OntoKernelIdeal.nD Cert.OntoKernelIdeal.τ Cert.OntoKernelIdeal.sig) → Buf (Elt Ideal) ℓ) (g : Dev Cert.OntoKernelIdeal.nD → PrngReg)
    (m' : (ℓ : Loc Cert.OntoReferenceIdeal.nD Cert.OntoReferenceIdeal.τ Cert.OntoReferenceIdeal.sig) → Buf (Elt Ideal) ℓ) (g' : Dev Cert.OntoReferenceIdeal.nD → PrngReg), Pre_OntoKernelIdeal m →
    (∀ c : Dev Cert.OntoKernelIdeal.nD,
      m' ((c.tc : Thread Cert.OntoReferenceIdeal.nD Cert.OntoReferenceIdeal.τ).loc Cert.OntoReferenceIdeal.main_arg0) = m ((c.tc : Thread Cert.OntoKernelIdeal.nD Cert.OntoKernelIdeal.τ).loc Cert.OntoKernelIdeal.main_arg0)
      ∧ m' ((c.tc : Thread Cert.OntoReferenceIdeal.nD Cert.OntoReferenceIdeal.τ).loc Cert.OntoReferenceIdeal.main_arg1) = m ((c.tc : Thread Cert.OntoKernelIdeal.nD Cert.OntoKernelIdeal.τ).loc Cert.OntoKernelIdeal.main_arg1)
      ∧ m' ((c.tc : Thread Cert.OntoReferenceIdeal.nD Cert.OntoReferenceIdeal.τ).loc Cert.OntoReferenceIdeal.main_arg2) = m ((c.tc : Thread Cert.OntoKernelIdeal.nD Cert.OntoKernelIdeal.τ).loc Cert.OntoKernelIdeal.main_arg2)) →
    ∃ (v0 : (c : Dev Cert.OntoKernelIdeal.nD) → Buf (Elt Ideal) ((c.tc : Thread Cert.OntoKernelIdeal.nD Cert.OntoKernelIdeal.τ).loc Cert.OntoKernelIdeal.main_v3)),
      θ_run (Cert.OntoKernelIdeal.defs (F := Ideal)) (onTc (τ := Cert.OntoKernelIdeal.τ) (Cert.OntoKernelIdeal.main (F := Ideal))) ⟨m, fun _ => 0, g⟩ (fun r => ∀ c : Dev Cert.OntoKernelIdeal.nD,
          r.2.mem ((c.tc : Thread Cert.OntoKernelIdeal.nD Cert.OntoKernelIdeal.τ).loc Cert.OntoKernelIdeal.main_v3) = v0 c
          ∧ r.2.mem ((c.tc : Thread Cert.OntoKernelIdeal.nD Cert.OntoKernelIdeal.τ).loc Cert.OntoKernelIdeal.main_arg0) = m ((c.tc : Thread Cert.OntoKernelIdeal.nD Cert.OntoKernelIdeal.τ).loc Cert.OntoKernelIdeal.main_arg0)
          ∧ r.2.mem ((c.tc : Thread Cert.OntoKernelIdeal.nD Cert.OntoKernelIdeal.τ).loc Cert.OntoKernelIdeal.main_arg1) = m ((c.tc : Thread Cert.OntoKernelIdeal.nD Cert.OntoKernelIdeal.τ).loc Cert.OntoKernelIdeal.main_arg1)
          ∧ r.2.mem ((c.tc : Thread Cert.OntoKernelIdeal.nD Cert.OntoKernelIdeal.τ).loc Cert.OntoKernelIdeal.main_arg2) = m ((c.tc : Thread Cert.OntoKernelIdeal.nD Cert.OntoKernelIdeal.τ).loc Cert.OntoKernelIdeal.main_arg2))
      ∧ θ_run (Cert.OntoReferenceIdeal.defs (F := Ideal)) (onTc (τ := Cert.OntoReferenceIdeal.τ) (Cert.OntoReferenceIdeal.main (F := Ideal))) ⟨m', fun _ => 0, g'⟩ (fun r => ∀ c : Dev Cert.OntoReferenceIdeal.nD,
          r.2.mem ((c.tc : Thread Cert.OntoReferenceIdeal.nD Cert.OntoReferenceIdeal.τ).loc Cert.OntoReferenceIdeal.main_v1) = v0 c
          ∧ r.2.mem ((c.tc : Thread Cert.OntoReferenceIdeal.nD Cert.OntoReferenceIdeal.τ).loc Cert.OntoReferenceIdeal.main_arg0) = m' ((c.tc : Thread Cert.OntoReferenceIdeal.nD Cert.OntoReferenceIdeal.τ).loc Cert.OntoReferenceIdeal.main_arg0)
          ∧ r.2.mem ((c.tc : Thread Cert.OntoReferenceIdeal.nD Cert.OntoReferenceIdeal.τ).loc Cert.OntoReferenceIdeal.main_arg1) = m' ((c.tc : Thread Cert.OntoReferenceIdeal.nD Cert.OntoReferenceIdeal.τ).loc Cert.OntoReferenceIdeal.main_arg1)
          ∧ r.2.mem ((c.tc : Thread Cert.OntoReferenceIdeal.nD Cert.OntoReferenceIdeal.τ).loc Cert.OntoReferenceIdeal.main_arg2) = m' ((c.tc : Thread Cert.OntoReferenceIdeal.nD Cert.OntoReferenceIdeal.τ).loc Cert.OntoReferenceIdeal.main_arg2))

def preserves_MixedKernel_MixedKernelIdeal : Prop :=
  True

def algebraic_MixedKernelIdeal_MixedReferenceIdeal [hMixedKernelIdeal : Cert.MixedKernelIdeal.Facts] [hMixedReferenceIdeal : Cert.MixedReferenceIdeal.Facts] : Prop :=
  ∀ (m : (ℓ : Loc Cert.MixedKernelIdeal.nD Cert.MixedKernelIdeal.τ Cert.MixedKernelIdeal.sig) → Buf (Elt Ideal) ℓ) (g : Dev Cert.MixedKernelIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedKernelIdeal m →
    (∀ c : Dev Cert.MixedKernelIdeal.nD,
      m' ((c.tc : Thread Cert.MixedReferenceIdeal.nD Cert.MixedReferenceIdeal.τ).loc Cert.MixedReferenceIdeal.main_arg0) = m ((c.tc : Thread Cert.MixedKernelIdeal.nD Cert.MixedKernelIdeal.τ).loc Cert.MixedKernelIdeal.main_arg0)
      ∧ m' ((c.tc : Thread Cert.MixedReferenceIdeal.nD Cert.MixedReferenceIdeal.τ).loc Cert.MixedReferenceIdeal.main_arg1) = m ((c.tc : Thread Cert.MixedKernelIdeal.nD Cert.MixedKernelIdeal.τ).loc Cert.MixedKernelIdeal.main_arg1)) →
    ∃ (v0 : (c : Dev Cert.MixedKernelIdeal.nD) → Buf (Elt Ideal) ((c.tc : Thread Cert.MixedKernelIdeal.nD Cert.MixedKernelIdeal.τ).loc Cert.MixedKernelIdeal.main_v2)),
      θ_run (Cert.MixedKernelIdeal.defs (F := Ideal)) (onTc (τ := Cert.MixedKernelIdeal.τ) (Cert.MixedKernelIdeal.main (F := Ideal))) ⟨m, fun _ => 0, g⟩ (fun r => ∀ c : Dev Cert.MixedKernelIdeal.nD,
          r.2.mem ((c.tc : Thread Cert.MixedKernelIdeal.nD Cert.MixedKernelIdeal.τ).loc Cert.MixedKernelIdeal.main_v2) = v0 c
          ∧ r.2.mem ((c.tc : Thread Cert.MixedKernelIdeal.nD Cert.MixedKernelIdeal.τ).loc Cert.MixedKernelIdeal.main_arg0) = m ((c.tc : Thread Cert.MixedKernelIdeal.nD Cert.MixedKernelIdeal.τ).loc Cert.MixedKernelIdeal.main_arg0)
          ∧ r.2.mem ((c.tc : Thread Cert.MixedKernelIdeal.nD Cert.MixedKernelIdeal.τ).loc Cert.MixedKernelIdeal.main_arg1) = m ((c.tc : Thread Cert.MixedKernelIdeal.nD Cert.MixedKernelIdeal.τ).loc Cert.MixedKernelIdeal.main_arg1))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v2) = v0 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1))

def preserves_BackKernel_BackKernelIdeal : Prop :=
  True

def algebraic_BackKernelIdeal_BackReferenceIdeal [hBackKernelIdeal : Cert.BackKernelIdeal.Facts] [hBackReferenceIdeal : Cert.BackReferenceIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)
      ∧ m' ((c.tc : Thread Cert.BackReferenceIdeal.nD Cert.BackReferenceIdeal.τ).loc Cert.BackReferenceIdeal.main_arg2) = m ((c.tc : Thread Cert.BackKernelIdeal.nD Cert.BackKernelIdeal.τ).loc Cert.BackKernelIdeal.main_arg2)
      ∧ m' ((c.tc : Thread Cert.BackReferenceIdeal.nD Cert.BackReferenceIdeal.τ).loc Cert.BackReferenceIdeal.main_arg3) = m ((c.tc : Thread Cert.BackKernelIdeal.nD Cert.BackKernelIdeal.τ).loc Cert.BackKernelIdeal.main_arg3)
      ∧ m' ((c.tc : Thread Cert.BackReferenceIdeal.nD Cert.BackReferenceIdeal.τ).loc Cert.BackReferenceIdeal.main_arg4) = m ((c.tc : Thread Cert.BackKernelIdeal.nD Cert.BackKernelIdeal.τ).loc Cert.BackKernelIdeal.main_arg4)) →
    ∃ (v0 : (c : Dev Cert.BackKernelIdeal.nD) → Buf (Elt Ideal) ((c.tc : Thread Cert.BackKernelIdeal.nD Cert.BackKernelIdeal.τ).loc Cert.BackKernelIdeal.main_v5_0)) (v1 : (c : Dev Cert.BackKernelIdeal.nD) → Buf (Elt Ideal) ((c.tc : Thread Cert.BackKernelIdeal.nD Cert.BackKernelIdeal.τ).loc Cert.BackKernelIdeal.main_v5_1)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v5_0) = v0 c
          ∧ r.2.mem ((c.tc : Thread Cert.BackKernelIdeal.nD Cert.BackKernelIdeal.τ).loc Cert.BackKernelIdeal.main_v5_1) = v1 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
          ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
          ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
          ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v38) = v0 c
          ∧ r.2.mem ((c.tc : Thread Cert.BackReferenceIdeal.nD Cert.BackReferenceIdeal.τ).loc Cert.BackReferenceIdeal.main_v39) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4))

def preserves_DwInKernel_DwInKernelIdeal : Prop :=
  True

def algebraic_DwInKernelIdeal_DwInReferenceIdeal [hDwInKernelIdeal : Cert.DwInKernelIdeal.Facts] [hDwInReferenceIdeal : Cert.DwInReferenceIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInKernelIdeal m →
    (∀ c : Dev Cert.DwInKernelIdeal.nD,
      m' ((c.tc : Thread Cert.DwInReferenceIdeal.nD Cert.DwInReferenceIdeal.τ).loc Cert.DwInReferenceIdeal.main_arg0) = m ((c.tc : Thread Cert.DwInKernelIdeal.nD Cert.DwInKernelIdeal.τ).loc Cert.DwInKernelIdeal.main_arg0)
      ∧ m' ((c.tc : Thread Cert.DwInReferenceIdeal.nD Cert.DwInReferenceIdeal.τ).loc Cert.DwInReferenceIdeal.main_arg1) = m ((c.tc : Thread Cert.DwInKernelIdeal.nD Cert.DwInKernelIdeal.τ).loc Cert.DwInKernelIdeal.main_arg1)) →
    ∃ (v0 : (c : Dev Cert.DwInKernelIdeal.nD) → Buf (Elt Ideal) ((c.tc : Thread Cert.DwInKernelIdeal.nD Cert.DwInKernelIdeal.τ).loc Cert.DwInKernelIdeal.main_v2)),
      θ_run (Cert.DwInKernelIdeal.defs (F := Ideal)) (onTc (τ := Cert.DwInKernelIdeal.τ) (Cert.DwInKernelIdeal.main (F := Ideal))) ⟨m, fun _ => 0, g⟩ (fun r => ∀ c : Dev Cert.DwInKernelIdeal.nD,
          r.2.mem ((c.tc : Thread Cert.DwInKernelIdeal.nD Cert.DwInKernelIdeal.τ).loc Cert.DwInKernelIdeal.main_v2) = v0 c
          ∧ r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
          ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v6) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v1)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v1) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v5) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_HeadKernel_HeadKernelIdeal : Prop :=
  True

def algebraic_HeadKernelIdeal_HeadReferenceIdeal [hHeadKernelIdeal : Cert.HeadKernelIdeal.Facts] [hHeadReferenceIdeal : Cert.HeadReferenceIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)) →
    ∃ (v0 : (c : Dev Cert.HeadKernelIdeal.nD) → Buf (Elt Ideal) ((c.tc : Thread Cert.HeadKernelIdeal.nD Cert.HeadKernelIdeal.τ).loc Cert.HeadKernelIdeal.main_v1_0)) (v1 : (c : Dev Cert.HeadKernelIdeal.nD) → Buf (Elt Ideal) ((c.tc : Thread Cert.HeadKernelIdeal.nD Cert.HeadKernelIdeal.τ).loc Cert.HeadKernelIdeal.main_v1_1)) (v2 : (c : Dev Cert.HeadKernelIdeal.nD) → Buf (Elt Ideal) ((c.tc : Thread Cert.HeadKernelIdeal.nD Cert.HeadKernelIdeal.τ).loc Cert.HeadKernelIdeal.main_v1_2)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v1_0) = v0 c
          ∧ r.2.mem ((c.tc : Thread Cert.HeadKernelIdeal.nD Cert.HeadKernelIdeal.τ).loc Cert.HeadKernelIdeal.main_v1_1) = v1 c
          ∧ r.2.mem ((c.tc : Thread Cert.HeadKernelIdeal.nD Cert.HeadKernelIdeal.τ).loc Cert.HeadKernelIdeal.main_v1_2) = v2 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v51) = v0 c
          ∧ r.2.mem ((c.tc : Thread Cert.HeadReferenceIdeal.nD Cert.HeadReferenceIdeal.τ).loc Cert.HeadReferenceIdeal.main_v50) = v1 c
          ∧ r.2.mem ((c.tc : Thread Cert.HeadReferenceIdeal.nD Cert.HeadReferenceIdeal.τ).loc Cert.HeadReferenceIdeal.main_v52) = v2 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2))

def Claim : Prop :=
  ∃ (hFwdKernel : Cert.FwdKernel.Facts) (hFwdKernelIdeal : Cert.FwdKernelIdeal.Facts) (hFwdReferenceIdeal : Cert.FwdReferenceIdeal.Facts) (hDxKernel : Cert.DxKernel.Facts) (hDxKernelIdeal : Cert.DxKernelIdeal.Facts) (hDxReferenceIdeal : Cert.DxReferenceIdeal.Facts) (hMidKernel : Cert.MidKernel.Facts) (hMidKernelIdeal : Cert.MidKernelIdeal.Facts) (hMidReferenceIdeal : Cert.MidReferenceIdeal.Facts) (hSmallKernel : Cert.SmallKernel.Facts) (hSmallKernelIdeal : Cert.SmallKernelIdeal.Facts) (hSmallReferenceIdeal : Cert.SmallReferenceIdeal.Facts) (hHiddenKernel : Cert.HiddenKernel.Facts) (hHiddenKernelIdeal : Cert.HiddenKernelIdeal.Facts) (hHiddenReferenceIdeal : Cert.HiddenReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hIntoKernel : Cert.IntoKernel.Facts) (hIntoKernelIdeal : Cert.IntoKernelIdeal.Facts) (hIntoReferenceIdeal : Cert.IntoReferenceIdeal.Facts) (hOntoKernel : Cert.OntoKernel.Facts) (hOntoKernelIdeal : Cert.OntoKernelIdeal.Facts) (hOntoReferenceIdeal : Cert.OntoReferenceIdeal.Facts) (hMixedKernel : Cert.MixedKernel.Facts) (hMixedKernelIdeal : Cert.MixedKernelIdeal.Facts) (hMixedReferenceIdeal : Cert.MixedReferenceIdeal.Facts) (hBackKernel : Cert.BackKernel.Facts) (hBackKernelIdeal : Cert.BackKernelIdeal.Facts) (hBackReferenceIdeal : Cert.BackReferenceIdeal.Facts) (hDwInKernel : Cert.DwInKernel.Facts) (hDwInKernelIdeal : Cert.DwInKernelIdeal.Facts) (hDwInReferenceIdeal : Cert.DwInReferenceIdeal.Facts) (hDwOutKernel : Cert.DwOutKernel.Facts) (hDwOutKernelIdeal : Cert.DwOutKernelIdeal.Facts) (hDwOutReferenceIdeal : Cert.DwOutReferenceIdeal.Facts) (hHeadKernel : Cert.HeadKernel.Facts) (hHeadKernelIdeal : Cert.HeadKernelIdeal.Facts) (hHeadReferenceIdeal : Cert.HeadReferenceIdeal.Facts) (hPre_finite_mid : Cert.Pre_finite_mid.Facts),
    quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_MidKernel (hMidKernel := hMidKernel)
    ∧ quiescent_MidKernelIdeal (hMidKernelIdeal := hMidKernelIdeal)
    ∧ quiescent_MidKernelIdeal_pre_finite_mid (hMidKernelIdeal := hMidKernelIdeal) (hPre_finite_mid := hPre_finite_mid)
    ∧ quiescent_MidReferenceIdeal (hMidReferenceIdeal := hMidReferenceIdeal)
    ∧ quiescent_MidReferenceIdeal_pre_finite_mid (hMidReferenceIdeal := hMidReferenceIdeal) (hPre_finite_mid := hPre_finite_mid)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_HiddenKernel (hHiddenKernel := hHiddenKernel)
    ∧ quiescent_HiddenKernelIdeal (hHiddenKernelIdeal := hHiddenKernelIdeal)
    ∧ quiescent_HiddenReferenceIdeal (hHiddenReferenceIdeal := hHiddenReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_IntoKernel (hIntoKernel := hIntoKernel)
    ∧ quiescent_IntoKernelIdeal (hIntoKernelIdeal := hIntoKernelIdeal)
    ∧ quiescent_IntoReferenceIdeal (hIntoReferenceIdeal := hIntoReferenceIdeal)
    ∧ quiescent_OntoKernel (hOntoKernel := hOntoKernel)
    ∧ quiescent_OntoKernelIdeal (hOntoKernelIdeal := hOntoKernelIdeal)
    ∧ quiescent_OntoReferenceIdeal (hOntoReferenceIdeal := hOntoReferenceIdeal)
    ∧ quiescent_MixedKernel (hMixedKernel := hMixedKernel)
    ∧ quiescent_MixedKernelIdeal (hMixedKernelIdeal := hMixedKernelIdeal)
    ∧ quiescent_MixedReferenceIdeal (hMixedReferenceIdeal := hMixedReferenceIdeal)
    ∧ quiescent_BackKernel (hBackKernel := hBackKernel)
    ∧ quiescent_BackKernelIdeal (hBackKernelIdeal := hBackKernelIdeal)
    ∧ quiescent_BackReferenceIdeal (hBackReferenceIdeal := hBackReferenceIdeal)
    ∧ quiescent_DwInKernel (hDwInKernel := hDwInKernel)
    ∧ quiescent_DwInKernelIdeal (hDwInKernelIdeal := hDwInKernelIdeal)
    ∧ quiescent_DwInReferenceIdeal (hDwInReferenceIdeal := hDwInReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_HeadKernel (hHeadKernel := hHeadKernel)
    ∧ quiescent_HeadKernelIdeal (hHeadKernelIdeal := hHeadKernelIdeal)
    ∧ quiescent_HeadReferenceIdeal (hHeadReferenceIdeal := hHeadReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_DxKernel_DxKernelIdeal
    ∧ algebraic_DxKernelIdeal_DxReferenceIdeal (hDxKernelIdeal := hDxKernelIdeal) (hDxReferenceIdeal := hDxReferenceIdeal)
    ∧ preserves_MidKernel_MidKernelIdeal
    ∧ algebraic_MidKernelIdeal_MidReferenceIdeal_pre_finite_mid (hMidKernelIdeal := hMidKernelIdeal) (hMidReferenceIdeal := hMidReferenceIdeal) (hPre_finite_mid := hPre_finite_mid)
    ∧ preserves_SmallKernel_SmallKernelIdeal
    ∧ algebraic_SmallKernelIdeal_SmallReferenceIdeal (hSmallKernelIdeal := hSmallKernelIdeal) (hSmallReferenceIdeal := hSmallReferenceIdeal)
    ∧ preserves_HiddenKernel_HiddenKernelIdeal
    ∧ algebraic_HiddenKernelIdeal_HiddenReferenceIdeal (hHiddenKernelIdeal := hHiddenKernelIdeal) (hHiddenReferenceIdeal := hHiddenReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_IntoKernel_IntoKernelIdeal
    ∧ algebraic_IntoKernelIdeal_IntoReferenceIdeal (hIntoKernelIdeal := hIntoKernelIdeal) (hIntoReferenceIdeal := hIntoReferenceIdeal)
    ∧ preserves_OntoKernel_OntoKernelIdeal
    ∧ algebraic_OntoKernelIdeal_OntoReferenceIdeal (hOntoKernelIdeal := hOntoKernelIdeal) (hOntoReferenceIdeal := hOntoReferenceIdeal)
    ∧ preserves_MixedKernel_MixedKernelIdeal
    ∧ algebraic_MixedKernelIdeal_MixedReferenceIdeal (hMixedKernelIdeal := hMixedKernelIdeal) (hMixedReferenceIdeal := hMixedReferenceIdeal)
    ∧ preserves_BackKernel_BackKernelIdeal
    ∧ algebraic_BackKernelIdeal_BackReferenceIdeal (hBackKernelIdeal := hBackKernelIdeal) (hBackReferenceIdeal := hBackReferenceIdeal)
    ∧ preserves_DwInKernel_DwInKernelIdeal
    ∧ algebraic_DwInKernelIdeal_DwInReferenceIdeal (hDwInKernelIdeal := hDwInKernelIdeal) (hDwInReferenceIdeal := hDwInReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_HeadKernel_HeadKernelIdeal
    ∧ algebraic_HeadKernelIdeal_HeadReferenceIdeal (hHeadKernelIdeal := hHeadKernelIdeal) (hHeadReferenceIdeal := hHeadReferenceIdeal)
-- ==== Pre_finite_mid.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v15 : FVec F S2048x1024 .f32) (main_cst_5 : FVec F S_ .f32) : IVec S_ 1 :=
  let main_v16 : FVec F S2048x1024 .f32 := broadcastInDim S2048x1024 ![] bcast_S_S2048x1024 main_cst_5
  let main_v17 : IVec S2048x1024 1 := cmpf .olt main_v15 main_v16
  let main_c_6 : IVec S_ 1 := constantI S_ 1 1#1
  let main_v18 : IVec S_ 1 := (fun x v => Host.reduce IntOp.andi x v reducesTo_S2048x1024_S_d0_1 h_S_) main_v17 main_c_6
  let main_v19 : IVec S_ 1 := andi main_v14 main_v18
  main_v19

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S1024x2816 .f32 := Host.absf main_arg2
  let main_cst_1 : FVec F S_ .f32 := constant S_ .f32 0x7F800000#32
  let main_v6 : FVec F S1024x2816 .f32 := broadcastInDim S1024x2816 ![] bcast_S_S1024x2816 main_cst_1
  let main_v7 : IVec S1024x2816 1 := cmpf .olt main_v5 main_v6
  let main_c_2 : IVec S_ 1 := constantI S_ 1 1#1
  let main_v8 : IVec S_ 1 := (fun x v => Host.reduce IntOp.andi x v reducesTo_S1024x2816_S_d0_1 h_S_) main_v7 main_c_2
  let main_v9 : IVec S_ 1 := andi main_v4 main_v8
  let main_v10 : FVec F S2816x1024 .f32 := Host.absf main_arg3
  let main_cst_3 : FVec F S_ .f32 := constant S_ .f32 0x7F800000#32
  let main_v11 : FVec F S2816x1024 .f32 := broadcastInDim S2816x1024 ![] bcast_S_S2816x1024 main_cst_3
  let main_v12 : IVec S2816x1024 1 := cmpf .olt main_v10 main_v11
  let main_c_4 : IVec S_ 1 := constantI S_ 1 1#1
  let main_v13 : IVec S_ 1 := (fun x v => Host.reduce IntOp.andi x v reducesTo_S2816x1024_S_d0_1 h_S_) main_v12 main_c_4
  let main_v14 : IVec S_ 1 := andi main_v9 main_v13
  let main_v15 : FVec F S2048x1024 .f32 := Host.absf main_arg4
  let main_cst_5 : FVec F S_ .f32 := constant S_ .f32 0x7F800000#32
  fn_part1 (F := F) main_v14 main_v15 main_cst_5
-- ==== FwdKernel.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S4x2048x704 : Shape := ⟨3, ![4, 2048, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 18
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S1x1024, .f32⟩
  | .hbm, ⟨14, _⟩ => ⟨S2048x1024, .f32⟩
  | .hbm, ⟨15, _⟩ => ⟨S2048x1024, .bf16⟩
  | .hbm, ⟨16, _⟩ => ⟨S4x2048x704, .bf16⟩
  | .hbm, ⟨17, _⟩ => ⟨S4x2048x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdReferenceIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | .hbm, ⟨39, _⟩ => ⟨S2048x2816, .f32⟩
  | .hbm, ⟨40, _⟩ => ⟨S2048x4x704, .f32⟩
  | .hbm, ⟨41, _⟩ => ⟨S4x2048x704, .f32⟩
  | .hbm, ⟨42, _⟩ => ⟨S4x2048x704, .bf16⟩
  | .hbm, ⟨43, _⟩ => ⟨S2048x2816, .f32⟩
  | .hbm, ⟨44, _⟩ => ⟨S2048x4x704, .f32⟩
  | .hbm, ⟨45, _⟩ => ⟨S4x2048x704, .f32⟩
  | .hbm, ⟨46, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== DxKernel.lean ====
abbrev S2048x1024 : Shape := ⟨2, ![2048, 1024]⟩
abbrev S1024 : Shape := ⟨1, ![1024]⟩
abbrev S2048x2816 : Shape := ⟨2, ![2048, 2816]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S2048x4x704 : Shape := ⟨3, ![2048, 4, 704]⟩
abbrev S4x2048x704 : Shape := ⟨3, ![4, 2048, 704]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 24
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x2816, .f32⟩
  | .hbm, ⟨4, _⟩ => ⟨S2048x2816, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S4x704x1024, .f32⟩
  | .hbm, ⟨14, _⟩ => ⟨S4x704x1024, .bf16⟩
  | .hbm, ⟨15, _⟩ => ⟨S1x1024, .f32⟩
  | .hbm, ⟨16, _⟩ => ⟨S2048x4x704, .f32⟩
  | .hbm, ⟨17, _⟩ => ⟨S4x2048x704, .f32⟩
  | .hbm, ⟨18, _⟩ => ⟨S4x2048x704, .bf16⟩
  | .hbm, ⟨19, _⟩ => ⟨S2048x4x704, .f32⟩
  | .hbm, ⟨20, _⟩ => ⟨S4x2048x704, .f32⟩
  | .hbm, ⟨21, _⟩ => ⟨S4x2048x704, .bf16⟩
  | .hbm, ⟨22, _⟩ => ⟨S2048x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v79 : BitVec 32 := Scalar.extui v47
  let c0_i32_65 : BitVec 32 := 0#32
  let v80 : BitVec 1 := Scalar.cmpi .ne v79 c0_i32_65
  v80

def k0_cond2 (i : grid0.Coords) : BitVec 1 :=
  let arg0 : BitVec 32 := BitVec.ofNat 32 (i 0).val
  let c0_i32 : BitVec 32 := 0#32
  let v47 : BitVec 1 := Scalar.cmpi .eq arg0 c0_i32
  let v_true : BitVec 1 := 1#1
  let v81 : BitVec 1 := Scalar.xori v47 v_true
  let v82 : BitVec 32 := Scalar.extui v81
  let c0_i32_66 : BitVec 32 := 0#32
  let v83 : BitVec 1 := Scalar.cmpi .ne v82 c0_i32_66
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DxReferenceIdeal.lean ====
abbrev S2048x1024 : Shape := ⟨2, ![2048, 1024]⟩
abbrev S1024 : Shape := ⟨1, ![1024]⟩
abbrev S2048x2816 : Shape := ⟨2, ![2048, 2816]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x2816, .f32⟩
  | .hbm, ⟨4, _⟩ => ⟨S2048x2816, .f32⟩
  | .hbm, ⟨5, _⟩ => ⟨S1024x2816, .f32⟩
  | .hbm, ⟨6, _⟩ => ⟨S1024x2816, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== MidKernel.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x2x352x1024 : Shape := ⟨4, ![4, 2, 352, 1024]⟩
abbrev S512x1024 : Shape := ⟨2, ![512, 1024]⟩
abbrev S1x512x704 : Shape := ⟨3, ![1, 512, 704]⟩
abbrev S1x704x1024 : Shape := ⟨3, ![1, 704, 1024]⟩
abbrev S1x2x352x1024 : Shape := ⟨4, ![1, 2, 352, 1024]⟩
abbrev S2048x704 : Shape := ⟨2, ![2048, 704]⟩
abbrev S704x1024 : Shape := ⟨2, ![704, 1024]⟩
abbrev S512x704 : Shape := ⟨2, ![512, 704]⟩

abbrev nBuf : Space → Nat
  | .hbm => 27
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S2048x1024, .bf16⟩
  | .hbm, ⟨14, _⟩ => ⟨S2048x2816, .f32⟩
  | .hbm, ⟨15, _⟩ => ⟨S2048x4x704, .f32⟩
  | .hbm, ⟨16, _⟩ => ⟨S4x2048x704, .f32⟩
  | .hbm, ⟨17, _⟩ => ⟨S4x2048x704, .bf16⟩
  | .hbm, ⟨18, _⟩ => ⟨S2048x2816, .f32⟩
  | .hbm, ⟨19, _⟩ => ⟨S2048x4x704, .f32⟩
  | .hbm, ⟨20, _⟩ => ⟨S4x2048x704, .f32⟩
  | .hbm, ⟨21, _⟩ => ⟨S4x2048x704, .bf16⟩
  | .hbm, ⟨22, _⟩ => ⟨S4x2048x704, .bf16⟩
  | .hbm, ⟨23, _⟩ => ⟨S4x2048x704, .bf16⟩
  | .hbm, ⟨24, _⟩ => ⟨S4x2x352x1024, .bf16⟩
  | .hbm, ⟨25, _⟩ => ⟨S4x2x352x1024, .bf16⟩
  | .hbm, ⟨26, _⟩ => ⟨S4x2x352x1024, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x2x352x1024, .bf16⟩
  | .local _ .vmem, ⟨14, _⟩ => ⟨S1x2x352x1024, .bf16⟩
  | .local _ .vmem, ⟨15, _⟩ => ⟨S1x2x352x1024, .bf16⟩
  | .local _ .vmem, ⟨16, _⟩ => ⟨S1x2x352x1024, .bf16⟩
  | .local _ .vmem, ⟨17, _⟩ => ⟨S1x2x352x1024, .bf16⟩
  | .local _ .vmem, ⟨18, _⟩ => ⟨S1x2x352x1024, .bf16⟩
  | .local _ .vmem, ⟨19, _⟩ => ⟨S2048x1024, .bf16⟩
  | .local _ .vmem, ⟨20, _⟩ => ⟨S2048x704, .bf16⟩
  | .local _ .vmem, ⟨21, _⟩ => ⟨S2048x704, .bf16⟩
  | .local _ .vmem, ⟨22, _⟩ => ⟨S2048x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v17_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v6 : Index := Scalar.indexCast v1
  let c0_1 : Index := 0#32
  ![v6.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v44 : Index := Scalar.indexCast v1
  let c0_23 : Index := 0#32
  ![v44.toNat, 0]
def k0_cond1 (i : grid0.Coords) : BitVec 1 :=
  let arg1 : BitVec 32 := BitVec.ofNat 32 (i 1).val
  let c3_i32 : BitVec 32 := 3#32
  let v58 : BitVec 1 := Scalar.cmpi .eq arg1 c3_i32
  let v59 : BitVec 32 := Scalar.extui v58
  let c0_i32 : BitVec 32 := 0#32
  let v60 : BitVec 1 := Scalar.cmpi .ne v59 c0_i32
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MidReferenceIdeal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩
abbrev S4x2x352x1024 : Shape := ⟨4, ![4, 2, 352, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1024x2816, .f32⟩
  | .hbm, ⟨29, _⟩ => ⟨S2816x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x4x704, .f32⟩
  | .hbm, ⟨40, _⟩ => ⟨S4x2048x704, .f32⟩
  | .hbm, ⟨41, _⟩ => ⟨S4x2048x704, .bf16⟩
  | .hbm, ⟨42, _⟩ => ⟨S2048x4x704, .f32⟩
  | .hbm, ⟨43, _⟩ => ⟨S4x2048x704, .f32⟩
  | .hbm, ⟨44, _⟩ => ⟨S4x2048x704, .bf16⟩
  | .hbm, ⟨45, _⟩ => ⟨S4x2x352x1024, .f32⟩
  | .hbm, ⟨46, _⟩ => ⟨S4x2x352x1024, .bf16⟩
  | .hbm, ⟨47, _⟩ => ⟨S2816x1024, .f32⟩
  | .hbm, ⟨48, _⟩ => ⟨S1024x2816, .f32⟩
  | .hbm, ⟨49, _⟩ => ⟨S2816x1024, .f32⟩
  | .hbm, ⟨50, _⟩ => ⟨S4x2x352x1024, .f32⟩
  | .hbm, ⟨51, _⟩ => ⟨S4x2x352x1024, .bf16⟩
  | .hbm, ⟨52, _⟩ => ⟨S2816x1024, .f32⟩
  | .hbm, ⟨53, _⟩ => ⟨S1024x2816, .f32⟩
  | .hbm, ⟨54, _⟩ => ⟨S2816x1024, .f32⟩
  | .hbm, ⟨55, _⟩ => ⟨S4x2x352x1024, .f32⟩
  | .hbm, ⟨56, _⟩ => ⟨S4x2x352x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== SmallKernel.lean ====
abbrev S1x656x128 : Shape := ⟨3, ![1, 656, 128]⟩
abbrev S1x328x128 : Shape := ⟨3, ![1, 328, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x656x128, .f32⟩
  | .hbm, ⟨1, _⟩ => ⟨S1x656x128, .f32⟩
  | .hbm, ⟨2, _⟩ => ⟨S1x656x128, .f32⟩
  | .hbm, ⟨3, _⟩ => ⟨S1x656x128, .f32⟩
  | .hbm, ⟨4, _⟩ => ⟨S1x656x128, .f32⟩
  | .hbm, ⟨5, _⟩ => ⟨S1x656x128, .f32⟩
  | .hbm, ⟨6, _⟩ => ⟨S1x656x128, .f32⟩
  | .hbm, ⟨7, _⟩ => ⟨S1x656x128, .f32⟩
  | .local _ .vmem, ⟨0, _⟩ => ⟨S1x328x128, .f32⟩
  | .local _ .vmem, ⟨1, _⟩ => ⟨S1x328x128, .f32⟩
  | .local _ .vmem, ⟨2, _⟩ => ⟨S1x328x128, .f32⟩
  | .local _ .vmem, ⟨3, _⟩ => ⟨S1x328x128, .f32⟩
  | .local _ .vmem, ⟨4, _⟩ => ⟨S1x328x128, .f32⟩
  | .local _ .vmem, ⟨5, _⟩ => ⟨S1x328x128, .f32⟩
  | .local _ .vmem, ⟨6, _⟩ => ⟨S1x328x128, .f32⟩
  | .local _ .vmem, ⟨7, _⟩ => ⟨S1x328x128, .f32⟩
  | .local _ .vmem, ⟨8, _⟩ => ⟨S1x328x128, .f32⟩
  | .local _ .vmem, ⟨9, _⟩ => ⟨S1x328x128, .f32⟩
  | .local _ .vmem, ⟨10, _⟩ => ⟨S1x328x128, .f32⟩
  | .local _ .vmem, ⟨11, _⟩ => ⟨S1x328x128, .f32⟩
  | .local _ .vmem, ⟨12, _⟩ => ⟨S1x328x128, .f32⟩
  | .local _ .vmem, ⟨13, _⟩ => ⟨S1x328x128, .f32⟩
  | .local _ .vmem, ⟨14, _⟩ => ⟨S1x328x128, .f32⟩
  | .local _ .vmem, ⟨15, _⟩ => ⟨S1x328x128, .f32⟩
  | _, _ => ⟨S1x656x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x328x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x328x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x328x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x328x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x328x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x328x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x328x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x328x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SmallReferenceIdeal.lean ====
abbrev S1x656x128 : Shape := ⟨3, ![1, 656, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x656x128, .f32⟩
  | .hbm, ⟨1, _⟩ => ⟨S1x656x128, .f32⟩
  | .hbm, ⟨2, _⟩ => ⟨S1x656x128, .f32⟩
  | .hbm, ⟨3, _⟩ => ⟨S1x656x128, .f32⟩
  | .hbm, ⟨4, _⟩ => ⟨S_, .f32⟩
  | .hbm, ⟨5, _⟩ => ⟨S1x656x128, .f32⟩
  | .hbm, ⟨6, _⟩ => ⟨S1x656x128, .f32⟩
  | .hbm, ⟨7, _⟩ => ⟨S_, .f32⟩
  | .hbm, ⟨8, _⟩ => ⟨S1x656x128, .f32⟩
  | .hbm, ⟨9, _⟩ => ⟨S1x656x128, .f32⟩
  | .hbm, ⟨10, _⟩ => ⟨S1x656x128, .f32⟩
  | .hbm, ⟨11, _⟩ => ⟨S_, .f32⟩
  | .hbm, ⟨12, _⟩ => ⟨S1x656x128, .f32⟩
  | .hbm, ⟨13, _⟩ => ⟨S1x656x128, .f32⟩
  | .hbm, ⟨14, _⟩ => ⟨S1x656x128, .f32⟩
  | .hbm, ⟨15, _⟩ => ⟨S_, .f32⟩
  | .hbm, ⟨16, _⟩ => ⟨S1x656x128, .f32⟩
  | .hbm, ⟨17, _⟩ => ⟨S1x656x128, .f32⟩
  | .hbm, ⟨18, _⟩ => ⟨S1x656x128, .f32⟩
  | .hbm, ⟨19, _⟩ => ⟨S_, .f32⟩
  | .hbm, ⟨20, _⟩ => ⟨S1x656x128, .f32⟩
  | .hbm, ⟨21, _⟩ => ⟨S1x656x128, .f32⟩
  | .hbm, ⟨22, _⟩ => ⟨S_, .f32⟩
  | .hbm, ⟨23, _⟩ => ⟨S1x656x128, .f32⟩
  | .hbm, ⟨24, _⟩ => ⟨S1x656x128, .f32⟩
  | .hbm, ⟨25, _⟩ => ⟨S1x656x128, .f32⟩
  | .hbm, ⟨26, _⟩ => ⟨S_, .f32⟩
  | .hbm, ⟨27, _⟩ => ⟨S1x656x128, .f32⟩
  | .hbm, ⟨28, _⟩ => ⟨S1x656x128, .f32⟩
  | .hbm, ⟨29, _⟩ => ⟨S1x656x128, .f32⟩
  | .hbm, ⟨30, _⟩ => ⟨S_, .f32⟩
  | .hbm, ⟨31, _⟩ => ⟨S1x656x128, .f32⟩
  | .hbm, ⟨32, _⟩ => ⟨S1x656x128, .f32⟩
  | .hbm, ⟨33, _⟩ => ⟨S1x656x128, .f32⟩
  | .hbm, ⟨34, _⟩ => ⟨S_, .f32⟩
  | .hbm, ⟨35, _⟩ => ⟨S1x656x128, .f32⟩
  | .hbm, ⟨36, _⟩ => ⟨S1x656x128, .f32⟩
  | _, _ => ⟨S1x656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== HiddenKernel.lean ====
abbrev S4x704x1024 : Shape := ⟨3, ![4, 704, 1024]⟩
abbrev S3x704x1024 : Shape := ⟨3, ![3, 704, 1024]⟩
abbrev S1x352x1024 : Shape := ⟨3, ![1, 352, 1024]⟩
abbrev S1x704x1024 : Shape := ⟨3, ![1, 704, 1024]⟩

abbrev nBuf : Space → Nat
  | .hbm => 14
  | .vmem => 32
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S3x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S1x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage1_0 : Fin 2 → Memref sig .tc .vmem S1x352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== HiddenKernelIdeal.lean ====
abbrev S4x704x1024 : Shape := ⟨3, ![4, 704, 1024]⟩
abbrev S3x704x1024 : Shape := ⟨3, ![3, 704, 1024]⟩
abbrev S1x352x1024 : Shape := ⟨3, ![1, 352, 1024]⟩
abbrev S1x704x1024 : Shape := ⟨3, ![1, 704, 1024]⟩

abbrev nBuf : Space → Nat
  | .hbm => 14
  | .vmem => 32
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S3x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S1x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage1_0 : Fin 2 → Memref sig .tc .vmem S1x352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== HiddenReferenceIdeal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InKernel.lean ====
abbrev S4x1024x640 : Shape := ⟨3, ![4, 1024, 640]⟩
abbrev S3x1024x640 : Shape := ⟨3, ![3, 1024, 640]⟩
abbrev S1x512x640 : Shape := ⟨3, ![1, 512, 640]⟩
abbrev S1x1024x640 : Shape := ⟨3, ![1, 1024, 640]⟩

abbrev nBuf : Space → Nat
  | .hbm => 14
  | .vmem => 32
  | .smem => 0
  | _ => 0

abbrev bufTy : (tb : Table) → Fin (tcTables nBuf tb) → BufTy
  | .hbm, ⟨0, _⟩ => ⟨S4x1024x640, .f32⟩
  | .hbm, ⟨1, _⟩ => ⟨S4x1024x640, .f32⟩
  | .hbm, ⟨2, _⟩ => ⟨S4x1024x640, .f32⟩
  | .hbm, ⟨3, _⟩ => ⟨S4x1024x640, .f32⟩
  | .hbm, ⟨4, _⟩ => ⟨S3x1024x640, .f32⟩
  | .hbm, ⟨5, _⟩ => ⟨S4x1024x640, .f32⟩
  | .hbm, ⟨6, _⟩ => ⟨S4x1024x640, .f32⟩
  | .hbm, ⟨7, _⟩ => ⟨S4x1024x640, .f32⟩
  | .hbm, ⟨8, _⟩ => ⟨S4x1024x640, .f32⟩
  | .hbm, ⟨9, _⟩ => ⟨S1x1024x640, .f32⟩
  | .hbm, ⟨10, _⟩ => ⟨S4x1024x640, .f32⟩
  | .hbm, ⟨11, _⟩ => ⟨S4x1024x640, .f32⟩
  | .hbm, ⟨12, _⟩ => ⟨S4x1024x640, .f32⟩
  | .hbm, ⟨13, _⟩ => ⟨S4x1024x640, .f32⟩
  | .local _ .vmem, ⟨0, _⟩ => ⟨S1x512x640, .f32⟩
  | .local _ .vmem, ⟨1, _⟩ => ⟨S1x512x640, .f32⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x512x640, .f32⟩
  | .local _ .vmem, ⟨7, _⟩ => ⟨S1x512x640, .f32⟩
  | .local _ .vmem, ⟨8, _⟩ => ⟨S1x512x640, .f32⟩
  | .local _ .vmem, ⟨9, _⟩ => ⟨S1x512x640, .f32⟩
  | .local _ .vmem, ⟨10, _⟩ => ⟨S1x512x640, .f32⟩
  | .local _ .vmem, ⟨11, _⟩ => ⟨S1x512x640, .f32⟩
  | .local _ .vmem, ⟨12, _⟩ => ⟨S1x512x640, .f32⟩
  | .local _ .vmem, ⟨13, _⟩ => ⟨S1x512x640, .f32⟩
  | .local _ .vmem, ⟨14, _⟩ => ⟨S1x512x640, .f32⟩
  | .local _ .vmem, ⟨15, _⟩ => ⟨S1x512x640, .f32⟩
  | .local _ .vmem, ⟨16, _⟩ => ⟨S1x512x640, .f32⟩
  | .local _ .vmem, ⟨17, _⟩ => ⟨S1x512x640, .f32⟩
  | .local _ .vmem, ⟨18, _⟩ => ⟨S1x512x640, .f32⟩
  | .local _ .vmem, ⟨19, _⟩ => ⟨S1x512x640, .f32⟩
  | .local _ .vmem, ⟨20, _⟩ => ⟨S1x512x640, .f32⟩
  | .local _ .vmem, ⟨21, _⟩ => ⟨S1x512x640, .f32⟩
  | .local _ .vmem, ⟨22, _⟩ => ⟨S1x512x640, .f32⟩
  | .local _ .vmem, ⟨23, _⟩ => ⟨S1x512x640, .f32⟩
  | .local _ .vmem, ⟨24, _⟩ => ⟨S1x512x640, .f32⟩
  | .local _ .vmem, ⟨25, _⟩ => ⟨S1x512x640, .f32⟩
  | .local _ .vmem, ⟨26, _⟩ => ⟨S1x512x640, .f32⟩
  | .local _ .vmem, ⟨27, _⟩ => ⟨S1x512x640, .f32⟩
  | .local _ .vmem, ⟨28, _⟩ => ⟨S1x512x640, .f32⟩
  | .local _ .vmem, ⟨29, _⟩ => ⟨S1x512x640, .f32⟩
  | .local _ .vmem, ⟨30, _⟩ => ⟨S1x512x640, .f32⟩
  | .local _ .vmem, ⟨31, _⟩ => ⟨S1x512x640, .f32⟩
  | _, _ => ⟨S4x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage1_0 : Fin 2 → Memref sig .tc .vmem S1x512x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x640 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== InKernelIdeal.lean ====
abbrev S4x1024x640 : Shape := ⟨3, ![4, 1024, 640]⟩
abbrev S3x1024x640 : Shape := ⟨3, ![3, 1024, 640]⟩
abbrev S1x512x640 : Shape := ⟨3, ![1, 512, 640]⟩
abbrev S1x1024x640 : Shape := ⟨3, ![1, 1024, 640]⟩

abbrev nBuf : Space → Nat
  | .hbm => 14
  | .vmem => 32
  | .smem => 0
  | _ => 0

abbrev bufTy : (tb : Table) → Fin (tcTables nBuf tb) → BufTy
  | .hbm, ⟨0, _⟩ => ⟨S4x1024x640, .f32⟩
  | .hbm, ⟨1, _⟩ => ⟨S4x1024x640, .f32⟩
  | .hbm, ⟨2, _⟩ => ⟨S4x1024x640, .f32⟩
  | .hbm, ⟨3, _⟩ => ⟨S4x1024x640, .f32⟩
  | .hbm, ⟨4, _⟩ => ⟨S3x1024x640, .f32⟩
  | .hbm, ⟨5, _⟩ => ⟨S4x1024x640, .f32⟩
  | .hbm, ⟨6, _⟩ => ⟨S4x1024x640, .f32⟩
  | .hbm, ⟨7, _⟩ => ⟨S4x1024x640, .f32⟩
  | .hbm, ⟨8, _⟩ => ⟨S4x1024x640, .f32⟩
  | .hbm, ⟨9, _⟩ => ⟨S1x1024x640, .f32⟩
  | .hbm, ⟨10, _⟩ => ⟨S4x1024x640, .f32⟩
  | .hbm, ⟨11, _⟩ => ⟨S4x1024x640, .f32⟩
  | .hbm, ⟨12, _⟩ => ⟨S4x1024x640, .f32⟩
  | .hbm, ⟨13, _⟩ => ⟨S4x1024x640, .f32⟩
  | .local _ .vmem, ⟨0, _⟩ => ⟨S1x512x640, .f32⟩
  | .local _ .vmem, ⟨1, _⟩ => ⟨S1x512x640, .f32⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x512x640, .f32⟩
  | .local _ .vmem, ⟨7, _⟩ => ⟨S1x512x640, .f32⟩
  | .local _ .vmem, ⟨8, _⟩ => ⟨S1x512x640, .f32⟩
  | .local _ .vmem, ⟨9, _⟩ => ⟨S1x512x640, .f32⟩
  | .local _ .vmem, ⟨10, _⟩ => ⟨S1x512x640, .f32⟩
  | .local _ .vmem, ⟨11, _⟩ => ⟨S1x512x640, .f32⟩
  | .local _ .vmem, ⟨12, _⟩ => ⟨S1x512x640, .f32⟩
  | .local _ .vmem, ⟨13, _⟩ => ⟨S1x512x640, .f32⟩
  | .local _ .vmem, ⟨14, _⟩ => ⟨S1x512x640, .f32⟩
  | .local _ .vmem, ⟨15, _⟩ => ⟨S1x512x640, .f32⟩
  | .local _ .vmem, ⟨16, _⟩ => ⟨S1x512x640, .f32⟩
  | .local _ .vmem, ⟨17, _⟩ => ⟨S1x512x640, .f32⟩
  | .local _ .vmem, ⟨18, _⟩ => ⟨S1x512x640, .f32⟩
  | .local _ .vmem, ⟨19, _⟩ => ⟨S1x512x640, .f32⟩
  | .local _ .vmem, ⟨20, _⟩ => ⟨S1x512x640, .f32⟩
  | .local _ .vmem, ⟨21, _⟩ => ⟨S1x512x640, .f32⟩
  | .local _ .vmem, ⟨22, _⟩ => ⟨S1x512x640, .f32⟩
  | .local _ .vmem, ⟨23, _⟩ => ⟨S1x512x640, .f32⟩
  | .local _ .vmem, ⟨24, _⟩ => ⟨S1x512x640, .f32⟩
  | .local _ .vmem, ⟨25, _⟩ => ⟨S1x512x640, .f32⟩
  | .local _ .vmem, ⟨26, _⟩ => ⟨S1x512x640, .f32⟩
  | .local _ .vmem, ⟨27, _⟩ => ⟨S1x512x640, .f32⟩
  | .local _ .vmem, ⟨28, _⟩ => ⟨S1x512x640, .f32⟩
  | .local _ .vmem, ⟨29, _⟩ => ⟨S1x512x640, .f32⟩
  | .local _ .vmem, ⟨30, _⟩ => ⟨S1x512x640, .f32⟩
  | .local _ .vmem, ⟨31, _⟩ => ⟨S1x512x640, .f32⟩
  | _, _ => ⟨S4x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage1_0 : Fin 2 → Memref sig .tc .vmem S1x512x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x640 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== InReferenceIdeal.lean ====
abbrev S4x1024x640 : Shape := ⟨3, ![4, 1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x640, .f32⟩
  | .hbm, ⟨1, _⟩ => ⟨S4x1024x640, .f32⟩
  | .hbm, ⟨2, _⟩ => ⟨S4x1024x640, .f32⟩
  | .hbm, ⟨3, _⟩ => ⟨S4x1024x640, .f32⟩
  | .hbm, ⟨4, _⟩ => ⟨S_, .f32⟩
  | .hbm, ⟨5, _⟩ => ⟨S4x1024x640, .f32⟩
  | .hbm, ⟨6, _⟩ => ⟨S4x1024x640, .f32⟩
  | .hbm, ⟨7, _⟩ => ⟨S_, .f32⟩
  | .hbm, ⟨8, _⟩ => ⟨S4x1024x640, .f32⟩
  | .hbm, ⟨9, _⟩ => ⟨S4x1024x640, .f32⟩
  | .hbm, ⟨10, _⟩ => ⟨S4x1024x640, .f32⟩
  | .hbm, ⟨11, _⟩ => ⟨S_, .f32⟩
  | .hbm, ⟨12, _⟩ => ⟨S4x1024x640, .f32⟩
  | .hbm, ⟨13, _⟩ => ⟨S4x1024x640, .f32⟩
  | .hbm, ⟨14, _⟩ => ⟨S4x1024x640, .f32⟩
  | .hbm, ⟨15, _⟩ => ⟨S_, .f32⟩
  | .hbm, ⟨16, _⟩ => ⟨S4x1024x640, .f32⟩
  | .hbm, ⟨17, _⟩ => ⟨S4x1024x640, .f32⟩
  | .hbm, ⟨18, _⟩ => ⟨S4x1024x640, .f32⟩
  | .hbm, ⟨19, _⟩ => ⟨S_, .f32⟩
  | .hbm, ⟨20, _⟩ => ⟨S4x1024x640, .f32⟩
  | .hbm, ⟨21, _⟩ => ⟨S4x1024x640, .f32⟩
  | .hbm, ⟨22, _⟩ => ⟨S_, .f32⟩
  | .hbm, ⟨23, _⟩ => ⟨S4x1024x640, .f32⟩
  | .hbm, ⟨24, _⟩ => ⟨S4x1024x640, .f32⟩
  | .hbm, ⟨25, _⟩ => ⟨S4x1024x640, .f32⟩
  | .hbm, ⟨26, _⟩ => ⟨S_, .f32⟩
  | .hbm, ⟨27, _⟩ => ⟨S4x1024x640, .f32⟩
  | .hbm, ⟨28, _⟩ => ⟨S4x1024x640, .f32⟩
  | .hbm, ⟨29, _⟩ => ⟨S4x1024x640, .f32⟩
  | .hbm, ⟨30, _⟩ => ⟨S_, .f32⟩
  | .hbm, ⟨31, _⟩ => ⟨S4x1024x640, .f32⟩
  | .hbm, ⟨32, _⟩ => ⟨S4x1024x640, .f32⟩
  | .hbm, ⟨33, _⟩ => ⟨S4x1024x640, .f32⟩
  | .hbm, ⟨34, _⟩ => ⟨S_, .f32⟩
  | .hbm, ⟨35, _⟩ => ⟨S4x1024x640, .f32⟩
  | .hbm, ⟨36, _⟩ => ⟨S4x1024x640, .f32⟩
  | _, _ => ⟨S4x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OutKernel.lean ====
abbrev S4x256x1024 : Shape := ⟨3, ![4, 256, 1024]⟩
abbrev S3x256x1024 : Shape := ⟨3, ![3, 256, 1024]⟩
abbrev S1x128x1024 : Shape := ⟨3, ![1, 128, 1024]⟩
abbrev S1x256x1024 : Shape := ⟨3, ![1, 256, 1024]⟩

abbrev nBuf : Space → Nat
  | .hbm => 14
  | .vmem => 32
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S3x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S1x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== OutReferenceIdeal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== IntoKernel.lean ====
abbrev S2048x1024 : Shape := ⟨2, ![2048, 1024]⟩
abbrev S1024 : Shape := ⟨1, ![1024]⟩
abbrev S1024x2560 : Shape := ⟨2, ![1024, 2560]⟩
abbrev S1x1024 : Shape := ⟨2, ![1, 1024]⟩
abbrev S1024x4x640 : Shape := ⟨3, ![1024, 4, 640]⟩
abbrev S4x1024x640 : Shape := ⟨3, ![4, 1024, 640]⟩
abbrev S2048x2560 : Shape := ⟨2, ![2048, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 9
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S1024x4x640, .f32⟩
  | .hbm, ⟨5, _⟩ => ⟨S4x1024x640, .f32⟩
  | .hbm, ⟨6, _⟩ => ⟨S4x1024x640, .bf16⟩
  | .hbm, ⟨7, _⟩ => ⟨S2048x2560, .f32⟩
  | .hbm, ⟨8, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== IntoReferenceIdeal.lean ====
abbrev S2048x1024 : Shape := ⟨2, ![2048, 1024]⟩
abbrev S1024 : Shape := ⟨1, ![1024]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2560 : Shape := ⟨2, ![2048, 2560]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2560, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x2560, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OntoKernel.lean ====
abbrev S2048x1024 : Shape := ⟨2, ![2048, 1024]⟩
abbrev S1024x1024 : Shape := ⟨2, ![1024, 1024]⟩
abbrev S4x256x1024 : Shape := ⟨3, ![4, 256, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2048x1024, .bf16⟩
  | .hbm, ⟨4, _⟩ => ⟨S4x256x1024, .f32⟩
  | .hbm, ⟨5, _⟩ => ⟨S4x256x1024, .bf16⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S4x256x1024, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OntoReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixedKernel.lean ====
abbrev S2048x1024 : Shape := ⟨2, ![2048, 1024]⟩
abbrev S1024x1024 : Shape := ⟨2, ![1024, 1024]⟩
abbrev S4x256x1024 : Shape := ⟨3, ![4, 256, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S4x256x1024, .f32⟩
  | .hbm, ⟨3, _⟩ => ⟨S4x256x1024, .bf16⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixedReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BackKernel.lean ====
abbrev S2048x1024 : Shape := ⟨2, ![2048, 1024]⟩
abbrev S1024 : Shape := ⟨1, ![1024]⟩
abbrev S2048x2560 : Shape := ⟨2, ![2048, 2560]⟩
abbrev S1024x2560 : Shape := ⟨2, ![1024, 2560]⟩
abbrev S1x1024 : Shape := ⟨2, ![1, 1024]⟩
abbrev S1024x4x640 : Shape := ⟨3, ![1024, 4, 640]⟩
abbrev S4x1024x640 : Shape := ⟨3, ![4, 1024, 640]⟩
abbrev S512x1024 : Shape := ⟨2, ![512, 1024]⟩
abbrev S512x2560 : Shape := ⟨2, ![512, 2560]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x2560, .f32⟩
  | .hbm, ⟨4, _⟩ => ⟨S1024x2560, .f32⟩
  | .hbm, ⟨5, _⟩ => ⟨S1x1024, .f32⟩
  | .hbm, ⟨6, _⟩ => ⟨S2048x2560, .bf16⟩
  | .hbm, ⟨7, _⟩ => ⟨S1024x4x640, .f32⟩
  | .hbm, ⟨8, _⟩ => ⟨S4x1024x640, .f32⟩
  | .hbm, ⟨9, _⟩ => ⟨S4x1024x640, .bf16⟩
  | .hbm, ⟨10, _⟩ => ⟨S2048x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2560, .bf16⟩
  | .local _ .vmem, ⟨6, _⟩ => ⟨S512x2560, .bf16⟩
  | .local _ .vmem, ⟨7, _⟩ => ⟨S4x1024x640, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v55 : BitVec 32 := Scalar.extui v23
  let c0_i32_30 : BitVec 32 := 0#32
  let v56 : BitVec 1 := Scalar.cmpi .ne v55 c0_i32_30
  v56

def k0_cond2 (i : grid0.Coords) : BitVec 1 :=
  let arg0 : BitVec 32 := BitVec.ofNat 32 (i 0).val
  let c0_i32 : BitVec 32 := 0#32
  let v23 : BitVec 1 := Scalar.cmpi .eq arg0 c0_i32
  let v_true : BitVec 1 := 1#1
  let v57 : BitVec 1 := Scalar.xori v23 v_true
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BackReferenceIdeal.lean ====
abbrev S2048x1024 : Shape := ⟨2, ![2048, 1024]⟩
abbrev S1024 : Shape := ⟨1, ![1024]⟩
abbrev S2048x2560 : Shape := ⟨2, ![2048, 2560]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x2560, .f32⟩
  | .hbm, ⟨4, _⟩ => ⟨S1024x2560, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x2560, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== DwInKernel.lean ====
abbrev S2048x1024 : Shape := ⟨2, ![2048, 1024]⟩
abbrev S2048x2560 : Shape := ⟨2, ![2048, 2560]⟩
abbrev S4x2x512x640 : Shape := ⟨4, ![4, 2, 512, 640]⟩
abbrev S2048x640 : Shape := ⟨2, ![2048, 640]⟩
abbrev S1x2x512x640 : Shape := ⟨4, ![1, 2, 512, 640]⟩
abbrev S1024x640 : Shape := ⟨2, ![1024, 640]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2560, .f32⟩
  | .hbm, ⟨2, _⟩ => ⟨S2048x1024, .bf16⟩
  | .hbm, ⟨3, _⟩ => ⟨S2048x2560, .bf16⟩
  | .hbm, ⟨4, _⟩ => ⟨S4x2x512x640, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1x2x512x640, .bf16⟩
  | .local _ .vmem, ⟨4, _⟩ => ⟨S1x2x512x640, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwInReferenceIdeal.lean ====
abbrev S2048x1024 : Shape := ⟨2, ![2048, 1024]⟩
abbrev S2048x2560 : Shape := ⟨2, ![2048, 2560]⟩
abbrev S_ : Shape := ⟨0, ![]⟩
abbrev S1024x2560 : Shape := ⟨2, ![1024, 2560]⟩
abbrev S2560x1024 : Shape := ⟨2, ![2560, 1024]⟩
abbrev S2x512x4x640 : Shape := ⟨4, ![2, 512, 4, 640]⟩
abbrev S4x2x512x640 : Shape := ⟨4, ![4, 2, 512, 640]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2560, .f32⟩
  | .hbm, ⟨2, _⟩ => ⟨S_, .f32⟩
  | .hbm, ⟨3, _⟩ => ⟨S1024x2560, .f32⟩
  | .hbm, ⟨4, _⟩ => ⟨S2048x2560, .f32⟩
  | .hbm, ⟨5, _⟩ => ⟨S2560x1024, .f32⟩
  | .hbm, ⟨6, _⟩ => ⟨S1024x2560, .f32⟩
  | .hbm, ⟨7, _⟩ => ⟨S2x512x4x640, .f32⟩
  | .hbm, ⟨8, _⟩ => ⟨S4x2x512x640, .f32⟩
  | .hbm, ⟨9, _⟩ => ⟨S4x2x512x640, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOutKernel.lean ====
abbrev S2048x1024 : Shape := ⟨2, ![2048, 1024]⟩
abbrev S4x2x128x1024 : Shape := ⟨4, ![4, 2, 128, 1024]⟩
abbrev S2048x256 : Shape := ⟨2, ![2048, 256]⟩
abbrev S1x2x128x1024 : Shape := ⟨4, ![1, 2, 128, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S4x2x128x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S1x2x128x1024, .bf16⟩
  | .local _ .vmem, ⟨4, _⟩ => ⟨S1x2x128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOutReferenceIdeal.lean ====
abbrev S2048x1024 : Shape := ⟨2, ![2048, 1024]⟩
abbrev S_ : Shape := ⟨0, ![]⟩
abbrev S1024x1024 : Shape := ⟨2, ![1024, 1024]⟩
abbrev S4x2x128x1024 : Shape := ⟨4, ![4, 2, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S4x2x128x1024, .f32⟩
  | .hbm, ⟨8, _⟩ => ⟨S4x2x128x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HeadKernel.lean ====
abbrev S2048x1024 : Shape := ⟨2, ![2048, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S8x128, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_20 : BitVec 32 := 0#32
  let v52 : BitVec 1 := Scalar.cmpi .ne v51 c0_i32_20
  v52

def k0_cond2 (i : grid0.Coords) : BitVec 1 :=
  let arg0 : BitVec 32 := BitVec.ofNat 32 (i 0).val
  let c0_i32_21 : BitVec 32 := 0#32
  let v53 : BitVec 1 := Scalar.cmpi .ne arg0 c0_i32_21
  let v54 : BitVec 32 := Scalar.extui v53
  let c0_i32_22 : BitVec 32 := 0#32
  let v55 : BitVec 1 := Scalar.cmpi .ne v54 c0_i32_22
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S8x128, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.FwdValue.lean ====
module

public import proofs.«01_k».proof.Proof.Gen.FwdKernelIdeal.Frame
public import proofs.«01_k».proof.Proof.Gen.FwdReferenceIdeal
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.FwdKernelIdeal.FwdValue

open Cert.FwdKernelIdeal Cert.FwdKernelIdeal.Gen

variable (m : (ℓ : Loc nD τ sig) → Buf (Elt Ideal) ℓ)

/-! ## The reference's own terms -/

/-- The normed activations, a token by a channel. -/
def hN (x : FVec Ideal Cert.FwdReferenceIdeal.S2048x1024 .f32) (g : FVec Ideal Cert.FwdReferenceIdeal.S1024 .f32) : FVec Ideal Cert.FwdReferenceIdeal.S2048x1024 .f32 :=
  mulf (mulf x (broadcastInDim Cert.FwdReferenceIdeal.S2048x1024 ![0, 1] Cert.FwdReferenceIdeal.Gen.bcast_S2048x1_S2048x1024_0_1 (Host.rsqrt (addf (Host.divf (broadcastInDim Cert.FwdReferenceIdeal.S2048x1 ![0] Cert.FwdReferenceIdeal.Gen.bcast_S2048_S2048x1_0 (Host.reduceAdd (mulf x x) (constant Cert.FwdReferenceIdeal.S_ .f32 0x00000000#32) Cert.FwdReferenceIdeal.Gen.reducesTo_S2048x1024_S2048_d1 Cert.FwdReferenceIdeal.Gen.h_S_)) (broadcastInDim Cert.FwdReferenceIdeal.S2048x1 ![] Cert.FwdReferenceIdeal.Gen.bcast_S_S2048x1 (constant Cert.FwdReferenceIdeal.S_ .f32 0x44800000#32))) (broadcastInDim Cert.FwdReferenceIdeal.S2048x1 ![] Cert.FwdReferenceIdeal.Gen.bcast_S_S2048x1 (constant Cert.FwdReferenceIdeal.S_ .f32 0x358637BD#32)))))) (broadcastInDim Cert.FwdReferenceIdeal.S2048x1024 ![0, 1] Cert.FwdReferenceIdeal.Gen.bcast_S1x1024_S2048x1024_0_1 (broadcastInDim Cert.FwdReferenceIdeal.S1x1024 ![1] Cert.FwdReferenceIdeal.Gen.bcast_S1024_S1x1024_1 g))

/-- A product of the normed activations with a weight. -/
def prodN (x : FVec Ideal Cert.FwdReferenceIdeal.S2048x1024 .f32) (g : FVec Ideal Cert.FwdReferenceIdeal.S1024 .f32) (w : FVec Ideal Cert.FwdReferenceIdeal.S1024x2816 .f32) : FVec Ideal Cert.FwdReferenceIdeal.S2048x2816 .f32 :=
  Host.dotGeneral Cert.FwdReferenceIdeal.dot_S2048x1024_S1024x2816_S2048x2816_1_0_0_1_n_n none (hN x g) w

/-- A hidden array with the shard of channels first. -/
def shardFirst (t : FVec Ideal Cert.FwdReferenceIdeal.S2048x2816 .f32) : FVec Ideal Cert.FwdReferenceIdeal.S4x2048x704 .bf16 :=
  truncf .bf16 (transpose Cert.FwdReferenceIdeal.S4x2048x704 [1, 0, 2] (shapeCast _ t Cert.FwdReferenceIdeal.Gen.shapeCasts_S2048x2816_S2048x4x704) Cert.FwdReferenceIdeal.Gen.transposes_S2048x4x704_S4x2048x704_1_0_2) Cert.FwdReferenceIdeal.Gen.bitsLt_bf16_f32

/-- The layer's result over its two hidden products. -/
def layerOut (x : FVec Ideal Cert.FwdReferenceIdeal.S2048x1024 .f32) (a b : FVec Ideal Cert.FwdReferenceIdeal.S2048x2816 .f32) (wd : FVec Ideal Cert.FwdReferenceIdeal.S2816x1024 .f32) : FVec Ideal Cert.FwdReferenceIdeal.S2048x1024 .f32 :=
  addf x (mulf (broadcastInDim Cert.FwdReferenceIdeal.S2048x1024 ![] Cert.FwdReferenceIdeal.Gen.bcast_S_S2048x1024 (constant Cert.FwdReferenceIdeal.S_ .f32 0x3F000000#32)) (Host.dotGeneral Cert.FwdReferenceIdeal.dot_S2048x2816_S2816x1024_S2048x1024_1_0_0_1_n_n none (mulf (mulf a (Host.divf (broadcastInDim Cert.FwdReferenceIdeal.S2048x2816 ![] Cert.FwdReferenceIdeal.Gen.bcast_S_S2048x2816 (constant Cert.FwdReferenceIdeal.S_ .f32 0x3F800000#32)) (addf (broadcastInDim Cert.FwdReferenceIdeal.S2048x2816 ![] Cert.FwdReferenceIdeal.Gen.bcast_S_S2048x2816 (constant Cert.FwdReferenceIdeal.S_ .f32 0x3F800000#32)) (Host.exp (Host.negf a))))) b) wd))

theorem idx_val : ∀ t : Fin cfg0.N, win0_0.index t = ![t.val, 0]
    ∧ win0_1.index t = ![0, 0]
    ∧ win0_2.index t = ![0, 0, 0]
    ∧ win0_3.index t = ![0, 0, 0]
    ∧ win0_4.index t = ![0, 0, 0]
    ∧ win0_5.index t = ![t.val, 0]
    ∧ win0_6.index t = ![t.val, 0]
    ∧ win0_7.index t = ![0, t.val, 0]
    ∧ win0_8.index t = ![0, t.val, 0] :=
  (by decide +kernel : ∀ t : Fin grid0.N, _)

/-- What the body computes of the normed activations is the reference's, row by row. -/
theorem norm_point (c : Dev nD) (t : Fin cfg0.N) (y : S512x1024.Idx) (j : Cert.FwdReferenceIdeal.S2048x1024.Idx)
    (h0 : (j 0 : ℕ) = t.val * 512 + y 0) (h1 : (j 1 : ℕ) = y 1) :
    k0_pay1 (iblk m c 0 t) (iblk m c 1 t) y = hN (m ((c : Thread nD τ).loc main_arg0)) (m ((c : Thread nD τ).loc main_arg1)) j := by
  pointwise [k0_pay1, hN]
  blk_point [iblk, V, idx_val t]

theorem pay8_apply (v : FVec Ideal S512x1024 .bf16) (w : Vec Ideal S1x704x1024 .bf16) (y : S512x704.Idx) :
    k0_pay8 v w y = ∑ k : Fin 1024, v (ix2 (y 0) k) * w (ix3 0 (y 1) k) := by pointwise [k0_pay8]

theorem core2 (c : Dev nD) (t : Fin cfg0.N) (s : Fin 4) (y : S512x704.Idx) (j : Cert.FwdReferenceIdeal.S2048x2816.Idx)
    (h0 : (j 0 : ℕ) = t.val * 512 + y 0) (h1 : (j 1 : ℕ) = s * 704 + y 1) :
    ∑ k : Fin 1024, k0_pay1 (F := Ideal) (iblk m c 0 t) (iblk m c 1 t) (ix2 (y 0) k) * (show Vec Ideal S4x704x1024 .bf16 from iblk m c 2 t) (ix3 s (y 1) k)
      = prodN (m ((c : Thread nD τ).loc main_arg0)) (m ((c : Thread nD τ).loc main_arg1)) (m ((c : Thread nD τ).loc main_arg2)) j := by
  pointwise [prodN]
  refine Finset.sum_congr rfl fun k _ => ?_
  rw [norm_point m c t (ix2 (y 0) k) (ix2 (j 0) k) h0 rfl]
  blk_point [iblk, V, idx_val t]

theorem core3 (c : Dev nD) (t : Fin cfg0.N) (s : Fin 4) (y : S512x704.Idx) (j : Cert.FwdReferenceIdeal.S2048x2816.Idx)
    (h0 : (j 0 : ℕ) = t.val * 512 + y 0) (h1 : (j 1 : ℕ) = s * 704 + y 1) :
    ∑ k : Fin 1024, k0_pay1 (F := Ideal) (iblk m c 0 t) (iblk m c 1 t) (ix2 (y 0) k) * (show Vec Ideal S4x704x1024 .bf16 from iblk m c 3 t) (ix3 s (y 1) k)
      = prodN (m ((c : Thread nD τ).loc main_arg0)) (m ((c : Thread nD τ).loc main_arg1)) (m ((c : Thread nD τ).loc main_arg3)) j := by
  pointwise [prodN]
  refine Finset.sum_congr rfl fun k _ => ?_
  rw [norm_point m c t (ix2 (y 0) k) (ix2 (j 0) k) h0 rfl]
  blk_point [iblk, V, idx_val t]

theorem point_7 (c : Dev nD) (t : Fin cfg0.N) (y) :
    out0_7 (iblk m c 0 t) (iblk m c 1 t) (iblk m c 2 t) (iblk m c 3 t) (iblk m c 4 t) y
      = shardFirst (prodN (m ((c : Thread nD τ).loc main_arg0)) (m ((c : Thread nD τ).loc main_arg1)) (m ((c : Thread nD τ).loc main_arg2))) (((cfg0.win 7).blk t).view.emb y) := by
  canon_tiles x h
  · open_payloads
    pointwise [shardFirst]
    refine Eq.trans ?_ (core2 m c t 3 (ix2 (x 1) (x 2)) _ ?_ ?_)
    · pointwise [k0_pay1]
    all_goals (blk_simp [idx_val t] <;> simp <;> omega)
  · open_payloads
    pointwise [shardFirst]
    refine Eq.trans ?_ (core2 m c t 2 (ix2 (x 1) (x 2)) _ ?_ ?_)
    · pointwise [k0_pay1]
    all_goals (blk_simp [idx_val t] <;> simp <;> omega)
  · open_payloads
    pointwise [shardFirst]
    refine Eq.trans ?_ (core2 m c t 1 (ix2 (x 1) (x 2)) _ ?_ ?_)
    · pointwise [k0_pay1]
    all_goals (blk_simp [idx_val t] <;> simp <;> omega)
  · open_payloads
    pointwise [shardFirst]
    refine Eq.trans ?_ (core2 m c t 0 (ix2 (x 1) (x 2)) _ ?_ ?_)
    · pointwise [k0_pay1]
    all_goals (blk_simp [idx_val t] <;> simp <;> omega)

theorem point_8 (c : Dev nD) (t : Fin cfg0.N) (y) :
    out0_8 (iblk m c 0 t) (iblk m c 1 t) (iblk m c 2 t) (iblk m c 3 t) (iblk m c 4 t) y
      = shardFirst (prodN (m ((c : Thread nD τ).loc main_arg0)) (m ((c : Thread nD τ).loc main_arg1)) (m ((c : Thread nD τ).loc main_arg3))) (((cfg0.win 8).blk t).view.emb y) := by
  canon_tiles x h
  · open_payloads
    pointwise [shardFirst]
    refine Eq.trans ?_ (core3 m c t 3 (ix2 (x 1) (x 2)) _ ?_ ?_)
    · pointwise [k0_pay1]
    all_goals (blk_simp [idx_val t] <;> simp <;> omega)
  · open_payloads
    pointwise [shardFirst]
    refine Eq.trans ?_ (core3 m c t 2 (ix2 (x 1) (x 2)) _ ?_ ?_)
    · pointwise [k0_pay1]
    all_goals (blk_simp [idx_val t] <;> simp <;> omega)
  · open_payloads
    pointwise [shardFirst]
    refine Eq.trans ?_ (core3 m c t 1 (ix2 (x 1) (x 2)) _ ?_ ?_)
    · pointwise [k0_pay1]
    all_goals (blk_simp [idx_val t] <;> simp <;> omega)
  · open_payloads
    pointwise [shardFirst]
    refine Eq.trans ?_ (core3 m c t 0 (ix2 (x 1) (x 2)) _ ?_ ?_)
    · pointwise [k0_pay1]
    all_goals (blk_simp [idx_val t] <;> simp <;> omega)

theorem pay23_eq (x0 : Vec Ideal S512x1024 .f32) (x1 : Vec Ideal S1x1024 .f32) (x2 x3 x4 : Vec Ideal S4x704x1024 .bf16) : k0_pay23 x0 x1 x2 x3 x4 = k0_pay1 x0 x1 := by
  unfold k0_pay23
  rw [View.ld_unit_zero (by decide), View.ld_unit_zero (by decide)]

theorem tile2_0 (c : Dev nD) (t : Fin cfg0.N) (y : S512x704.Idx) (j : Cert.FwdReferenceIdeal.S2048x2816.Idx)
    (h0 : (j 0 : ℕ) = t.val * 512 + y 0) (h1 : (j 1 : ℕ) = 0 * 704 + y 1) :
    k0_pay2 (iblk m c 0 t) (iblk m c 1 t) (View.ld (iblk m c 2 t) r0_2) y
      = prodN (m ((c : Thread nD τ).loc main_arg0)) (m ((c : Thread nD τ).loc main_arg1)) (m ((c : Thread nD τ).loc main_arg2)) j := by
  refine Eq.trans ?_ (core2 m c t 0 y j h0 h1)
  pointwise [k0_pay2]

theorem tile2_1 (c : Dev nD) (t : Fin cfg0.N) (y : S512x704.Idx) (j : Cert.FwdReferenceIdeal.S2048x2816.Idx)
    (h0 : (j 0 : ℕ) = t.val * 512 + y 0) (h1 : (j 1 : ℕ) = 1 * 704 + y 1) :
    k0_pay8 (k0_pay23 (iblk m c 0 t) (iblk m c 1 t) (iblk m c 2 t) (iblk m c 3 t) (iblk m c 4 t)) (View.ld (iblk m c 2 t) r0_4) y
      = prodN (m ((c : Thread nD τ).loc main_arg0)) (m ((c : Thread nD τ).loc main_arg1)) (m ((c : Thread nD τ).loc main_arg2)) j := by
  refine Eq.trans ?_ (core2 m c t 1 y j h0 h1)
  rw [pay23_eq]
  pointwise [k0_pay8]

theorem tile2_2 (c : Dev nD) (t : Fin cfg0.N) (y : S512x704.Idx) (j : Cert.FwdReferenceIdeal.S2048x2816.Idx)
    (h0 : (j 0 : ℕ) = t.val * 512 + y 0) (h1 : (j 1 : ℕ) = 2 * 704 + y 1) :
    k0_pay13 (k0_pay23 (iblk m c 0 t) (iblk m c 1 t) (iblk m c 2 t) (iblk m c 3 t) (iblk m c 4 t)) (View.ld (iblk m c 2 t) r0_6) y
      = prodN (m ((c : Thread nD τ).loc main_arg0)) (m ((c : Thread nD τ).loc main_arg1)) (m ((c : Thread nD τ).loc main_arg2)) j := by
  refine Eq.trans ?_ (core2 m c t 2 y j h0 h1)
  rw [pay23_eq]
  pointwise [k0_pay13]

theorem tile2_3 (c : Dev nD) (t : Fin cfg0.N) (y : S512x704.Idx) (j : Cert.FwdReferenceIdeal.S2048x2816.Idx)
    (h0 : (j 0 : ℕ) = t.val * 512 + y 0) (h1 : (j 1 : ℕ) = 3 * 704 + y 1) :
    k0_pay18 (k0_pay23 (iblk m c 0 t) (iblk m c 1 t) (iblk m c 2 t) (iblk m c 3 t) (iblk m c 4 t)) (View.ld (iblk m c 2 t) r0_8) y
      = prodN (m ((c : Thread nD τ).loc main_arg0)) (m ((c : Thread nD τ).loc main_arg1)) (m ((c : Thread nD τ).loc main_arg2)) j := by
  refine Eq.trans ?_ (core2 m c t 3 y j h0 h1)
  rw [pay23_eq]
  pointwise [k0_pay18]

theorem tile3_0 (c : Dev nD) (t : Fin cfg0.N) (y : S512x704.Idx) (j : Cert.FwdReferenceIdeal.S2048x2816.Idx)
    (h0 : (j 0 : ℕ) = t.val * 512 + y 0) (h1 : (j 1 : ℕ) = 0 * 704 + y 1) :
    k0_pay3 (iblk m c 0 t) (iblk m c 1 t) (View.ld (iblk m c 3 t) r0_2) y
      = prodN (m ((c : Thread nD τ).loc main_arg0)) (m ((c : Thread nD τ).loc main_arg1)) (m ((c : Thread nD τ).loc main_arg3)) j := by
  refine Eq.trans ?_ (core3 m c t 0 y j h0 h1)
  pointwise [k0_pay3]

theorem tile3_1 (c : Dev nD) (t : Fin cfg0.N) (y : S512x704.Idx) (j : Cert.FwdReferenceIdeal.S2048x2816.Idx)
    (h0 : (j 0 : ℕ) = t.val * 512 + y 0) (h1 : (j 1 : ℕ) = 1 * 704 + y 1) :
    k0_pay9 (k0_pay23 (iblk m c 0 t) (iblk m c 1 t) (iblk m c 2 t) (iblk m c 3 t) (iblk m c 4 t)) (View.ld (iblk m c 3 t) r0_4) y
      = prodN (m ((c : Thread nD τ).loc main_arg0)) (m ((c : Thread nD τ).loc main_arg1)) (m ((c : Thread nD τ).loc main_arg3)) j := by
  refine Eq.trans ?_ (core3 m c t 1 y j h0 h1)
  rw [pay23_eq]
  pointwise [k0_pay9]

theorem tile3_2 (c : Dev nD) (t : Fin cfg0.N) (y : S512x704.Idx) (j : Cert.FwdReferenceIdeal.S2048x2816.Idx)
    (h0 : (j 0 : ℕ) = t.val * 512 + y 0) (h1 : (j 1 : ℕ) = 2 * 704 + y 1) :
    k0_pay14 (k0_pay23 (iblk m c 0 t) (iblk m c 1 t) (iblk m c 2 t) (iblk m c 3 t) (iblk m c 4 t)) (View.ld (iblk m c 3 t) r0_6) y
      = prodN (m ((c : Thread nD τ).loc main_arg0)) (m ((c : Thread nD τ).loc main_arg1)) (m ((c : Thread nD τ).loc main_arg3)) j := by
  refine Eq.trans ?_ (core3 m c t 2 y j h0 h1)
  rw [pay23_eq]
  pointwise [k0_pay14]

theorem tile3_3 (c : Dev nD) (t : Fin cfg0.N) (y : S512x704.Idx) (j : Cert.FwdReferenceIdeal.S2048x2816.Idx)
    (h0 : (j 0 : ℕ) = t.val * 512 + y 0) (h1 : (j 1 : ℕ) = 3 * 704 + y 1) :
    k0_pay19 (k0_pay23 (iblk m c 0 t) (iblk m c 1 t) (iblk m c 2 t) (iblk m c 3 t) (iblk m c 4 t)) (View.ld (iblk m c 3 t) r0_8) y
      = prodN (m ((c : Thread nD τ).loc main_arg0)) (m ((c : Thread nD τ).loc main_arg1)) (m ((c : Thread nD τ).loc main_arg3)) j := by
  refine Eq.trans ?_ (core3 m c t 3 y j h0 h1)
  rw [pay23_eq]
  pointwise [k0_pay19]

theorem point_5 (c : Dev nD) (t : Fin cfg0.N) (y) :
    k0_pay22 (iblk m c 0 t) (k0_pay23 (iblk m c 0 t) (iblk m c 1 t) (iblk m c 2 t) (iblk m c 3 t) (iblk m c 4 t))
      (k0_pay17 (k0_pay23 (iblk m c 0 t) (iblk m c 1 t) (iblk m c 2 t) (iblk m c 3 t) (iblk m c 4 t)) (k0_pay7 (k0_pay2
      (iblk m c 0 t) (iblk m c 1 t) (View.ld (iblk m c 2 t) r0_2)) (k0_pay3 (iblk m c 0 t) (iblk m c 1 t) (View.ld (iblk
      m c 3 t) r0_2)) (k0_pay6 (F := Ideal)) (View.ld (iblk m c 4 t) r0_2)) (k0_pay12 (k0_pay23 (iblk m c 0 t) (iblk m c 1
      t) (iblk m c 2 t) (iblk m c 3 t) (iblk m c 4 t)) (View.ld (iblk m c 2 t) r0_4) (View.ld (iblk m c 3 t) r0_4))
      (View.ld (iblk m c 4 t) r0_4) (View.ld (iblk m c 2 t) r0_6) (View.ld (iblk m c 3 t) r0_6) (View.ld (iblk m c 4 t)
      r0_6)) (View.ld (iblk m c 2 t) r0_8) (View.ld (iblk m c 3 t) r0_8) (View.ld (iblk m c 4 t) r0_8) y
      = layerOut (m ((c : Thread nD τ).loc main_arg0)) (prodN (m ((c : Thread nD τ).loc main_arg0)) (m ((c : Thread nD τ).loc main_arg1)) (m ((c : Thread nD τ).loc main_arg2)))
        (prodN (m ((c : Thread nD τ).loc main_arg0)) (m ((c : Thread nD τ).loc main_arg1)) (m ((c : Thread nD τ).loc main_arg3))) (m ((c : Thread nD τ).loc main_arg4)) (((cfg0.win 5).blk t).view.emb y) := by
  pointwise [k0_pay22, k0_pay17, k0_pay7, k0_pay12, k0_pay6, layerOut]
  rw [Fin.sum_univ_tiles 4 704 rfl, Fin.sum_univ_four]
  simp only [zero_sub]
  refine congr (congrArg HAdd.hAdd ?_) ?_
  · blk_ext [iblk, V, idx_val t]
  refine congrArg (HMul.hMul _) ?_
  refine congr (congrArg HAdd.hAdd ?_) ?_
  · refine congr (congrArg HAdd.hAdd ?_) ?_
    · refine congr (congrArg HAdd.hAdd ?_) ?_
      · refine Finset.sum_congr rfl fun x _ => ?_
        rw [tile2_0 m c t (ix2 (y 0) x) (ix2 (((cfg0.win 5).blk t).view.emb y 0) ⟨0 * 704 + x, by omega⟩) (by blk_simp [idx_val t] <;> simp) rfl,
          tile3_0 m c t (ix2 (y 0) x) (ix2 (((cfg0.win 5).blk t).view.emb y 0) ⟨0 * 704 + x, by omega⟩) (by blk_simp [idx_val t] <;> simp) rfl]
        blk_point [iblk, V, idx_val t]
      · refine Finset.sum_congr rfl fun x _ => ?_
        rw [tile2_1 m c t (ix2 (y 0) x) (ix2 (((cfg0.win 5).blk t).view.emb y 0) ⟨1 * 704 + x, by omega⟩) (by blk_simp [idx_val t] <;> simp) rfl,
          tile3_1 m c t (ix2 (y 0) x) (ix2 (((cfg0.win 5).blk t).view.emb y 0) ⟨1 * 704 + x, by omega⟩) (by blk_simp [idx_val t] <;> simp) rfl]
        blk_point [iblk, V, idx_val t]
    · refine Finset.sum_congr rfl fun x _ => ?_
      rw [tile2_2 m c t (ix2 (y 0) x) (ix2 (((cfg0.win 5).blk t).view.emb y 0) ⟨2 * 704 + x, by omega⟩) (by blk_simp [idx_val t] <;> simp) rfl,
        tile3_2 m c t (ix2 (y 0) x) (ix2 (((cfg0.win 5).blk t).view.emb y 0) ⟨2 * 704 + x, by omega⟩) (by blk_simp [idx_val t] <;> simp) rfl]
      blk_point [iblk, V, idx_val t]
  · refine Finset.sum_congr rfl fun x _ => ?_
    rw [tile2_3 m c t (ix2 (y 0) x) (ix2 (((cfg0.win 5).blk t).view.emb y 0) ⟨3 * 704 + x, by omega⟩) (by blk_simp [idx_val t] <;> simp) rfl,
      tile3_3 m c t (ix2 (y 0) x) (ix2 (((cfg0.win 5).blk t).view.emb y 0) ⟨3 * 704 + x, by omega⟩) (by blk_simp [idx_val t] <;> simp) rfl]
    blk_point [iblk, V, idx_val t]

theorem point_6 (c : Dev nD) (t : Fin cfg0.N) (y) : k0_pay1 (iblk m c 0 t) (iblk m c 1 t) y
      = (truncf .bf16 (hN (m ((c : Thread nD τ).loc main_arg0)) (m ((c : Thread nD τ).loc main_arg1))) Cert.FwdReferenceIdeal.Gen.bitsLt_bf16_f32 : FVec Ideal Cert.FwdReferenceIdeal.S2048x1024 .bf16) (((cfg0.win 6).blk t).view.emb y) :=
  norm_point m c t y _ (by blk_simp [idx_val t]) (by blk_simp [idx_val t] <;> simp)

theorem final_5 (c : Dev nD) : (dats m 0 c).arrAt 5 (cfgs 0).N = layerOut (m ((c : Thread nD τ).loc main_arg0)) (prodN (m ((c : Thread nD τ).loc main_arg0)) (m ((c : Thread nD τ).loc main_arg1)) (m ((c : Thread nD τ).loc main_arg2)))
        (prodN (m ((c : Thread nD τ).loc main_arg0)) (m ((c : Thread nD τ).loc main_arg1)) (m ((c : Thread nD τ).loc main_arg3))) (m ((c : Thread nD τ).loc main_arg4)) := by
  refine (dats m 0 c).arrAt_eq_of_covers 5 _ (by decide +kernel) fun t hf y => ?_
  blk_simp; rw [after0_5]; frame_out
  exact point_5 m c t y

theorem final_6 (c : Dev nD) : (dats m 0 c).arrAt 6 (cfgs 0).N = (truncf .bf16 (hN (m ((c : Thread nD τ).loc main_arg0)) (m ((c : Thread nD τ).loc main_arg1))) Cert.FwdReferenceIdeal.Gen.bitsLt_bf16_f32 : FVec Ideal Cert.FwdReferenceIdeal.S2048x1024 .bf16) := by
  refine (dats m 0 c).arrAt_eq_of_covers 6 _ (by decide +kernel) fun t hf y => ?_
  blk_simp; rw [after0_6]; frame_out
  exact point_6 m c t y

theorem final_7 (c : Dev nD) : (dats m 0 c).arrAt 7 (cfgs 0).N = shardFirst (prodN (m ((c : Thread nD τ).loc main_arg0)) (m ((c : Thread nD τ).loc main_arg1)) (m ((c : Thread nD τ).loc main_arg2))) := by
  refine (dats m 0 c).arrAt_eq_of_covers 7 _ (by decide +kernel) fun t hf y => ?_
  blk_simp; rw [after0_7]
  exact point_7 m c t y

theorem final_8 (c : Dev nD) : (dats m 0 c).arrAt 8 (cfgs 0).N = shardFirst (prodN (m ((c : Thread nD τ).loc main_arg0)) (m ((c : Thread nD τ).loc main_arg1)) (m ((c : Thread nD τ).loc main_arg3))) := by
  refine (dats m 0 c).arrAt_eq_of_covers 8 _ (by decide +kernel) fun t hf y => ?_
  blk_simp; rw [after0_8]
  exact point_8 m c t y

end Cert.FwdKernelIdeal.FwdValue

end
-- ==== Proof.NormGrad.lean ====
module

public import Idealize.ShloMosaic.Lib.Pipeline.ValueKit
public import Idealize.ShloMosaic.Lib.Claim

@[expose] public section

noncomputable section

open Idealize.ShloMosaic
open scoped BigOperators

/-! # The gradient of a root-mean-square norm, over the extended reals

The kernel writes `dx + r * (h - (x * r) * mean (h * (x * r)))`; the derivative written out is
`dx + h * r` with the same product `x * m` added twice, `m` holding `-1/2`. A nonnegative real
factor passes through every sum of extended reals, and `r` is one whatever the row holds. -/

namespace Cert.NormGrad

theorem bits_1024 : Ideal.ofBits FTy.f32 0x44800000#32 = ((1024 : ℝ) : EReal) := by
  simp [Ideal.ofBits, Ideal.ieee, -EReal.coe_mul] <;> norm_num

theorem bits_neg_half : Ideal.ofBits FTy.f32 0xBF000000#32 = ((-(1 / 2) : ℝ) : EReal) := by
  simp [Ideal.ofBits, Ideal.ieee, -EReal.coe_mul] <;> norm_num

theorem bits_half : Ideal.ofBits FTy.f32 0x3F000000#32 = ((1 / 2 : ℝ) : EReal) := by
  simp [Ideal.ofBits, Ideal.ieee, -EReal.coe_mul] <;> norm_num

theorem bits_eps : ∃ e : ℝ, 0 < e ∧ Ideal.ofBits FTy.f32 0x358637BD#32 = (e : EReal) := by
  refine ⟨_, ?_, by simp [Ideal.ofBits, Ideal.ieee, -EReal.coe_mul]; rfl⟩
  norm_num

theorem mul_self_nonneg' (x : EReal) : 0 ≤ x * x := by
  rcases le_total 0 x with h | h
  · exact mul_nonneg h h
  · exact EReal.mul_nonneg_iff.mpr (Or.inr ⟨h, h⟩)

/-- A nonnegative real passes through a sum. -/
theorem mul_sum (r : ℝ) (hr : 0 ≤ r) {ι : Type*} (s : Finset ι) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- The inverse root of a positive mean square is a nonnegative real, and over the mean square it is its cube. -/
theorem rsqrt_pos (v : EReal) (hv : 0 < v) :
    ∃ r : ℝ, 0 ≤ r ∧ Ideal.rsqrt v = (r : EReal) ∧ Ideal.div (r : EReal) v = ((r * r * r : ℝ) : EReal) := by
  induction v with
  | bot => simp at hv
  | top => exact ⟨0, le_refl 0, by simp, by simp [Ideal.div]⟩
  | coe v =>
    have h : 0 < v := EReal.coe_pos.mp hv
    refine ⟨(Real.sqrt v)⁻¹, by positivity, by simp [not_lt.mpr h.le, h.ne'], ?_⟩
    have hs : (Real.sqrt v)⁻¹ * (Real.sqrt v)⁻¹ = 1 / v := by
      rw [← mul_inv, Real.mul_self_sqrt h.le, one_div]
    rw [Ideal.div_coe h.ne', ← EReal.coe_mul, ← hs, mul_assoc]

/-- The mean square of a row with the small constant is positive. -/
theorem msq_pos {n : ℕ} (x : Fin n → EReal) :
    0 < Ideal.div (∑ k, x k * x k) (Ideal.ofBits FTy.f32 0x44800000#32) + Ideal.ofBits FTy.f32 0x358637BD#32 := by
  obtain ⟨e, he, h⟩ := bits_eps
  rw [h, bits_1024, Ideal.div_coe (by norm_num)]
  have h0 : 0 ≤ (∑ k, x k * x k) * ((1 / 1024 : ℝ) : EReal) :=
    mul_nonneg (Finset.sum_nonneg fun k _ => mul_self_nonneg' _) (EReal.coe_nonneg.mpr (by norm_num))
  exact lt_of_lt_of_le (EReal.coe_pos.mpr he) (le_add_of_nonneg_left h0)

theorem neg_twice (a : EReal) : -a + -a = -(a + a) := by
  induction a <;> simp [← EReal.coe_neg, ← EReal.coe_add]

/-- The two ways of writing the gradient agree at every extended real. -/
theorem norm_grad {n : ℕ} (v : EReal) (hv : 0 < v) (dx x h : EReal) (X H : Fin n → EReal) :
    dx + Ideal.rsqrt v * (h - x * Ideal.rsqrt v * Ideal.div (∑ k, H k * (X k * Ideal.rsqrt v)) (Ideal.ofBits FTy.f32 0x44800000#32))
      = dx + h * Ideal.rsqrt v
          + x * Ideal.div ((∑ k, X k * H k) * (Ideal.ofBits FTy.f32 0xBF000000#32 * Ideal.div (Ideal.rsqrt v) v)) (Ideal.ofBits FTy.f32 0x44800000#32)
          + Ideal.div ((∑ k, X k * H k) * (Ideal.ofBits FTy.f32 0xBF000000#32 * Ideal.div (Ideal.rsqrt v) v)) (Ideal.ofBits FTy.f32 0x44800000#32) * x := by
  obtain ⟨r, hr, h1, h2⟩ := rsqrt_pos v hv
  rw [h1, h2, bits_1024, bits_neg_half, Ideal.div_coe (by norm_num), Ideal.div_coe (by norm_num)]
  have hS : ∑ k, H k * (X k * (r : EReal)) = (r : EReal) * ∑ k, X k * H k := by
    rw [mul_sum r hr]
    exact Finset.sum_congr rfl fun k _ => by rw [mul_comm (X k) (r : EReal), mul_left_comm, mul_comm (H k)]
  rw [hS]
  generalize ∑ k, X k * H k = S
  have e1 : x * (r : EReal) * ((r : EReal) * S * ((1 / 1024 : ℝ) : EReal)) = x * S * ((r * r / 1024 : ℝ) : EReal) := by
    have : ((r * r / 1024 : ℝ) : EReal) = (r : EReal) * (r : EReal) * ((1 / 1024 : ℝ) : EReal) := by
      rw [← EReal.coe_mul, ← EReal.coe_mul]; congr 1; ring
    rw [this]; ac_rfl
  have hp : 0 ≤ r * r * r / 2048 := by positivity
  have e2 : x * (S * (((-(1 / 2) : ℝ) : EReal) * ((r * r * r : ℝ) : EReal)) * ((1 / 1024 : ℝ) : EReal)) = -(x * S * ((r * r * r / 2048 : ℝ) : EReal)) := by
    have : ((-(1 / 2) : ℝ) : EReal) * ((r * r * r : ℝ) : EReal) * ((1 / 1024 : ℝ) : EReal) = -((r * r * r / 2048 : ℝ) : EReal) := by
      rw [← EReal.coe_mul, ← EReal.coe_mul, ← EReal.coe_neg]; congr 1; ring
    rw [mul_assoc S, this, mul_neg, mul_neg, ← mul_assoc]
  rw [e1, mul_comm _ x, e2, sub_eq_add_neg, EReal.left_distrib_of_nonneg_of_ne_top (EReal.coe_nonneg.mpr hr) (EReal.coe_ne_top r),
    add_assoc (dx + _), neg_twice, ← EReal.left_distrib_of_nonneg (EReal.coe_nonneg.mpr hp) (EReal.coe_nonneg.mpr hp), ← EReal.coe_add,
    mul_comm h, ← add_assoc, mul_neg, mul_left_comm, ← EReal.coe_mul]
  congr 4
  ring

end Cert.NormGrad

end
-- ==== Proof.DxValue.lean ====
module

public import proofs.«01_k».proof.Proof.Gen.DxKernelIdeal.Frame
public import proofs.«01_k».proof.Proof.Gen.DxReferenceIdeal
public import Idealize.ShloMosaic.Lib.Pipeline.ValueKit
public import proofs.«01_k».proof.Proof.Gen.DxReferenceIdeal.Run
public import proofs.«01_k».proof.Proof.NormGrad
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DxKernelIdeal.DxValue

open Cert.DxKernelIdeal Cert.DxKernelIdeal.Gen

variable (m : (ℓ : Loc nD τ sig) → Buf (Elt Ideal) ℓ)

/-! ## The reference's own terms -/

/-- The gradient with respect to the normed activations, before the gain. -/
def gH (da db : FVec Ideal Cert.DxReferenceIdeal.S2048x2816 .f32) (wg wu : FVec Ideal Cert.DxReferenceIdeal.S1024x2816 .f32) : FVec Ideal Cert.DxReferenceIdeal.S2048x1024 .f32 :=
  addf (Host.dotGeneral Cert.DxReferenceIdeal.dot_S2048x2816_S1024x2816_S2048x1024_1_1_0_0_n_n none db wu) (Host.dotGeneral Cert.DxReferenceIdeal.dot_S2048x2816_S1024x2816_S2048x1024_1_1_0_0_n_n none da wg)

/-- A row's mean square with the small constant. -/
def msq (x : FVec Ideal Cert.DxReferenceIdeal.S2048x1024 .f32) : FVec Ideal Cert.DxReferenceIdeal.S2048x1 .f32 :=
  addf (Host.divf (broadcastInDim Cert.DxReferenceIdeal.S2048x1 ![0] Cert.DxReferenceIdeal.Gen.bcast_S2048_S2048x1_0 (Host.reduceAdd (mulf x x) (constant Cert.DxReferenceIdeal.S_ .f32 0x00000000#32) Cert.DxReferenceIdeal.Gen.reducesTo_S2048x1024_S2048_d1 Cert.DxReferenceIdeal.Gen.h_S_)) (broadcastInDim Cert.DxReferenceIdeal.S2048x1 ![] Cert.DxReferenceIdeal.Gen.bcast_S_S2048x1 (constant Cert.DxReferenceIdeal.S_ .f32 0x44800000#32))) (broadcastInDim Cert.DxReferenceIdeal.S2048x1 ![] Cert.DxReferenceIdeal.Gen.bcast_S_S2048x1 (constant Cert.DxReferenceIdeal.S_ .f32 0x358637BD#32))

/-- The gain's gradient over the gradient of the normed activations. -/
def gGain (x gh : FVec Ideal Cert.DxReferenceIdeal.S2048x1024 .f32) : FVec Ideal Cert.DxReferenceIdeal.S1x1024 .f32 :=
  shapeCast _ (Host.reduceAdd (shapeCast _ (Host.reduceAdd (mulf (mulf x (broadcastInDim Cert.DxReferenceIdeal.S2048x1024 ![0, 1] Cert.DxReferenceIdeal.Gen.bcast_S2048x1_S2048x1024_0_1 (Host.rsqrt (msq x)))) gh) (constant Cert.DxReferenceIdeal.S_ .f32 0x00000000#32) Cert.DxReferenceIdeal.Gen.reducesTo_S2048x1024_S1024_d0 Cert.DxReferenceIdeal.Gen.h_S_) Cert.DxReferenceIdeal.Gen.shapeCasts_S1024_S1x1024) (constant Cert.DxReferenceIdeal.S_ .f32 0x00000000#32) Cert.DxReferenceIdeal.Gen.reducesTo_S1x1024_S1024_d0 Cert.DxReferenceIdeal.Gen.h_S_) Cert.DxReferenceIdeal.Gen.shapeCasts_S1024_S1x1024

/-- What the mean square's gradient adds to a row, a scalar a row. -/
def gMean (x gp : FVec Ideal Cert.DxReferenceIdeal.S2048x1024 .f32) (ms : FVec Ideal Cert.DxReferenceIdeal.S2048x1 .f32) : FVec Ideal Cert.DxReferenceIdeal.S2048x1024 .f32 :=
  broadcastInDim Cert.DxReferenceIdeal.S2048x1024 ![0] Cert.DxReferenceIdeal.Gen.bcast_S2048_S2048x1024_0 (Host.reduceAdd (Host.divf (mulf (shapeCast _ (Host.reduceAdd (mulf x gp) (constant Cert.DxReferenceIdeal.S_ .f32 0x00000000#32) Cert.DxReferenceIdeal.Gen.reducesTo_S2048x1024_S2048_d1 Cert.DxReferenceIdeal.Gen.h_S_) Cert.DxReferenceIdeal.Gen.shapeCasts_S2048_S2048x1) (mulf (broadcastInDim Cert.DxReferenceIdeal.S2048x1 ![] Cert.DxReferenceIdeal.Gen.bcast_S_S2048x1 (constant Cert.DxReferenceIdeal.S_ .f32 0xBF000000#32)) (Host.divf (Host.rsqrt ms) ms))) (broadcastInDim Cert.DxReferenceIdeal.S2048x1 ![] Cert.DxReferenceIdeal.Gen.bcast_S_S2048x1 (constant Cert.DxReferenceIdeal.S_ .f32 0x44800000#32))) (constant Cert.DxReferenceIdeal.S_ .f32 0x00000000#32) Cert.DxReferenceIdeal.Gen.reducesTo_S2048x1_S2048_d1 Cert.DxReferenceIdeal.Gen.h_S_)

/-- The gradient of the normed activations through the gain. -/
def gGained (g : FVec Ideal Cert.DxReferenceIdeal.S1024 .f32) (gh : FVec Ideal Cert.DxReferenceIdeal.S2048x1024 .f32) : FVec Ideal Cert.DxReferenceIdeal.S2048x1024 .f32 :=
  mulf gh (broadcastInDim Cert.DxReferenceIdeal.S2048x1024 ![0, 1] Cert.DxReferenceIdeal.Gen.bcast_S1x1024_S2048x1024_0_1 (broadcastInDim Cert.DxReferenceIdeal.S1x1024 ![1] Cert.DxReferenceIdeal.Gen.bcast_S1024_S1x1024_1 g))

/-- The input's gradient over the gradient of the normed activations. -/
def gIn (dx x : FVec Ideal Cert.DxReferenceIdeal.S2048x1024 .f32) (g : FVec Ideal Cert.DxReferenceIdeal.S1024 .f32) (gh : FVec Ideal Cert.DxReferenceIdeal.S2048x1024 .f32) : FVec Ideal Cert.DxReferenceIdeal.S2048x1024 .f32 :=
  addf (addf (addf dx (mulf (gGained g gh) (broadcastInDim Cert.DxReferenceIdeal.S2048x1024 ![0, 1] Cert.DxReferenceIdeal.Gen.bcast_S2048x1_S2048x1024_0_1 (Host.rsqrt (msq x))))) (mulf x (gMean x (gGained g gh) (msq x)))) (mulf (gMean x (gGained g gh) (msq x)) x)

theorem idx_val : ∀ t : Fin cfg0.N, win0_0.index t = ![t.val, 0]
    ∧ win0_1.index t = ![t.val, 0]
    ∧ win0_2.index t = ![0, 0]
    ∧ win0_3.index t = ![0, t.val, 0]
    ∧ win0_4.index t = ![0, t.val, 0]
    ∧ win0_5.index t = ![0, 0, 0]
    ∧ win0_6.index t = ![0, 0, 0]
    ∧ win0_7.index t = ![t.val, 0]
    ∧ win0_8.index t = ![0, 0] :=
  (by decide +kernel : ∀ t : Fin grid0.N, _)

/-- The gradient of the normed activations as the body adds it up, four shards of two products. -/
def accB (a b : Vec Ideal S4x512x704 .bf16) (wg wu : Vec Ideal S4x704x1024 .bf16) : FVec Ideal S512x1024 .f32 :=
  k0_pay7 (k0_pay5 (View.ld a (Rect.unit ![0, 0, 0] ![1, 512, 704] inb_S4x512x704_S1x512x704_0_0_0))
          (View.ld wg (Rect.unit ![0, 0, 0] ![1, 704, 1024] inb_S4x704x1024_S1x704x1024_0_0_0))
          (View.ld b (Rect.unit ![0, 0, 0] ![1, 512, 704] inb_S4x512x704_S1x512x704_0_0_0))
          (View.ld wu (Rect.unit ![0, 0, 0] ![1, 704, 1024] inb_S4x704x1024_S1x704x1024_0_0_0))
          (View.ld a (Rect.unit ![1, 0, 0] ![1, 512, 704] inb_S4x512x704_S1x512x704_1_0_0))
          (View.ld wg (Rect.unit ![1, 0, 0] ![1, 704, 1024] inb_S4x704x1024_S1x704x1024_1_0_0))
          (View.ld b (Rect.unit ![1, 0, 0] ![1, 512, 704] inb_S4x512x704_S1x512x704_1_0_0))
          (View.ld wu (Rect.unit ![1, 0, 0] ![1, 704, 1024] inb_S4x704x1024_S1x704x1024_1_0_0)))
        (k0_pay6 (View.ld a (Rect.unit ![2, 0, 0] ![1, 512, 704] inb_S4x512x704_S1x512x704_2_0_0)))
        (View.ld wg (Rect.unit ![2, 0, 0] ![1, 704, 1024] inb_S4x704x1024_S1x704x1024_2_0_0))
        (View.ld b (Rect.unit ![2, 0, 0] ![1, 512, 704] inb_S4x512x704_S1x512x704_2_0_0))
        (View.ld wu (Rect.unit ![2, 0, 0] ![1, 704, 1024] inb_S4x704x1024_S1x704x1024_2_0_0))
        (View.ld a (Rect.unit ![3, 0, 0] ![1, 512, 704] inb_S4x512x704_S1x512x704_3_0_0))
        (View.ld wg (Rect.unit ![3, 0, 0] ![1, 704, 1024] inb_S4x704x1024_S1x704x1024_3_0_0))
        (View.ld b (Rect.unit ![3, 0, 0] ![1, 512, 704] inb_S4x512x704_S1x512x704_3_0_0))
        (View.ld wu (Rect.unit ![3, 0, 0] ![1, 704, 1024] inb_S4x704x1024_S1x704x1024_3_0_0))

/-- One shard's product at a place of the block. -/
def shardSum (a : Vec Ideal S4x512x704 .bf16) (w : Vec Ideal S4x704x1024 .bf16) (y : S512x1024.Idx) (s : Fin 4) : EReal :=
  ∑ k : Fin 704, a (ix3 s (y 0) k) * w (ix3 s k (y 1))

theorem accB_apply (a b : Vec Ideal S4x512x704 .bf16) (wg wu : Vec Ideal S4x704x1024 .bf16) (y : S512x1024.Idx) :
    accB a b wg wu y = ∑ s : Fin 4, (shardSum b wu y s + shardSum a wg y s) := by
  rw [Fin.sum_univ_four]
  pointwise [accB, k0_pay5, k0_pay6, k0_pay7, shardSum]
  abel

/-- A product of the reference with a weight, channels against channels. -/
def wProd (d : FVec Ideal Cert.DxReferenceIdeal.S2048x2816 .f32) (w : FVec Ideal Cert.DxReferenceIdeal.S1024x2816 .f32) : FVec Ideal Cert.DxReferenceIdeal.S2048x1024 .f32 :=
  Host.dotGeneral Cert.DxReferenceIdeal.dot_S2048x2816_S1024x2816_S2048x1024_1_1_0_0_n_n none d w

theorem shard3 (c : Dev nD) (t : Fin cfg0.N) (y : S512x1024.Idx) (j : Cert.DxReferenceIdeal.S2048x1024.Idx)
    (h0 : (j 0 : ℕ) = t.val * 512 + y 0) (h1 : (j 1 : ℕ) = y 1) :
    ∑ s : Fin 4, shardSum (iblk m c 3 t) (iblk m c 5 t) y s = wProd (m ((c : Thread nD τ).loc main_arg3)) (m ((c : Thread nD τ).loc main_arg5)) j := by
  pointwise [shardSum, wProd]
  rw [Fin.sum_univ_tiles 4 704 rfl]
  refine Finset.sum_congr rfl fun s _ => Finset.sum_congr rfl fun k _ => ?_
  blk_point [iblk, V, idx_val t]

theorem shard4 (c : Dev nD) (t : Fin cfg0.N) (y : S512x1024.Idx) (j : Cert.DxReferenceIdeal.S2048x1024.Idx)
    (h0 : (j 0 : ℕ) = t.val * 512 + y 0) (h1 : (j 1 : ℕ) = y 1) :
    ∑ s : Fin 4, shardSum (iblk m c 4 t) (iblk m c 6 t) y s = wProd (m ((c : Thread nD τ).loc main_arg4)) (m ((c : Thread nD τ).loc main_arg6)) j := by
  pointwise [shardSum, wProd]
  rw [Fin.sum_univ_tiles 4 704 rfl]
  refine Finset.sum_congr rfl fun s _ => Finset.sum_congr rfl fun k _ => ?_
  blk_point [iblk, V, idx_val t]

/-- What the body adds up is the reference's gradient, block by block. -/
theorem acc_point (c : Dev nD) (t : Fin cfg0.N) (y : S512x1024.Idx) (j : Cert.DxReferenceIdeal.S2048x1024.Idx)
    (h0 : (j 0 : ℕ) = t.val * 512 + y 0) (h1 : (j 1 : ℕ) = y 1) :
    accB (iblk m c 3 t) (iblk m c 4 t) (iblk m c 5 t) (iblk m c 6 t) y
      = gH (m ((c : Thread nD τ).loc main_arg3)) (m ((c : Thread nD τ).loc main_arg4)) (m ((c : Thread nD τ).loc main_arg5)) (m ((c : Thread nD τ).loc main_arg6)) j := by
  rw [accB_apply, Finset.sum_add_distrib, shard3 m c t y j h0 h1, shard4 m c t y j h0 h1]
  rfl

/-- A row's inverse root, in the body and in the reference. -/
theorem root_point (c : Dev nD) (t : Fin cfg0.N) (y : S512x1.Idx) (j : Cert.DxReferenceIdeal.S2048x1.Idx)
    (h0 : (j 0 : ℕ) = t.val * 512 + y 0) :
    k0_pay8 (iblk m c 1 t) y = Ideal.rsqrt (msq (m ((c : Thread nD τ).loc main_arg1)) j) := by
  pointwise [k0_pay8, msq]
  blk_point [iblk, V, idx_val t]

/-- A row's input, in the body and in the reference. -/
theorem x_point (c : Dev nD) (t : Fin cfg0.N) (y : S512x1024.Idx) (j : Cert.DxReferenceIdeal.S2048x1024.Idx)
    (h0 : (j 0 : ℕ) = t.val * 512 + y 0) (h1 : (j 1 : ℕ) = y 1) :
    (iblk m c 1 t : Vec Ideal S512x1024 .f32) y = (m ((c : Thread nD τ).loc main_arg1) : FVec Ideal Cert.DxReferenceIdeal.S2048x1024 .f32) j := by
  blk_point [iblk, V, idx_val t]

theorem dx_point (c : Dev nD) (t : Fin cfg0.N) (y : S512x1024.Idx) (j : Cert.DxReferenceIdeal.S2048x1024.Idx)
    (h0 : (j 0 : ℕ) = t.val * 512 + y 0) (h1 : (j 1 : ℕ) = y 1) :
    (iblk m c 0 t : Vec Ideal S512x1024 .f32) y = (m ((c : Thread nD τ).loc main_arg0) : FVec Ideal Cert.DxReferenceIdeal.S2048x1024 .f32) j := by
  blk_point [iblk, V, idx_val t]

theorem g_point (c : Dev nD) (t : Fin cfg0.N) (k : Fin 1024) :
    (iblk m c 2 t : Vec Ideal S1x1024 .f32) (ix2 0 k) = (m ((c : Thread nD τ).loc main_arg2) : FVec Ideal Cert.DxReferenceIdeal.S1024 .f32) (ix1 k) := by
  blk_point [iblk, V, idx_val t]

/-- A row's mean square with the small constant is positive. -/
theorem msq_pos (x : FVec Ideal Cert.DxReferenceIdeal.S2048x1024 .f32) (j : Cert.DxReferenceIdeal.S2048x1.Idx) : 0 < msq x j := by
  pointwise [msq]
  exact Cert.NormGrad.msq_pos _

/-- The input's gradient at a place of the block. -/
theorem in_point (c : Dev nD) (t : Fin cfg0.N) (y : S512x1024.Idx) (j : Cert.DxReferenceIdeal.S2048x1024.Idx)
    (h0 : (j 0 : ℕ) = t.val * 512 + y 0) (h1 : (j 1 : ℕ) = y 1) :
    k0_pay2 (accB (iblk m c 3 t) (iblk m c 4 t) (iblk m c 5 t) (iblk m c 6 t)) (iblk m c 1 t) (k0_pay8 (iblk m c 1 t)) (iblk m c 2 t) (iblk m c 0 t) y
      = gIn (m ((c : Thread nD τ).loc main_arg0)) (m ((c : Thread nD τ).loc main_arg1)) (m ((c : Thread nD τ).loc main_arg2))
          (gH (m ((c : Thread nD τ).loc main_arg3)) (m ((c : Thread nD τ).loc main_arg4)) (m ((c : Thread nD τ).loc main_arg5)) (m ((c : Thread nD τ).loc main_arg6))) j := by
  have e1 : (j 1 : Fin 1024) = y 1 := Fin.ext h1
  pointwise [k0_pay1, k0_pay2, gIn, gGained, gMean]
  rw [acc_point m c t y j h0 h1, x_point m c t y j h0 h1, dx_point m c t y j h0 h1, root_point m c t (ix2 (y 0) 0) (ix2 (j 0) 0) h0,
    g_point m c t (y 1), ← e1]
  simp only [fun x => acc_point m c t (ix2 (y 0) x) (ix2 (j 0) x) h0 rfl, fun x => x_point m c t (ix2 (y 0) x) (ix2 (j 0) x) h0 rfl,
    fun x => g_point m c t x, Finset.univ_unique, Finset.sum_singleton]
  exact Cert.NormGrad.norm_grad _ (msq_pos _ (ix2 (j 0) 0)) _ _ _ (fun k => _) (fun k => _)

theorem point_7_A (c : Dev nD) (t : Fin cfg0.N) (h0 : t.val % 4 = 0) (h1 : ¬1 ≤ t.val) (y) :
    (out0_A_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0
      t).mpr h0) (fun h => h1 ((hcond0_1 t).mp h)) (iblk m c 0 t) (iblk m c 1 t) (iblk m c 2 t) (iblk m c 3 t) (iblk m c
      4 t) (iblk m c 5 t) (iblk m c 6 t)) y
      = gIn (m ((c : Thread nD τ).loc main_arg0)) (m ((c : Thread nD τ).loc main_arg1)) (m ((c : Thread nD τ).loc main_arg2))
          (gH (m ((c : Thread nD τ).loc main_arg3)) (m ((c : Thread nD τ).loc main_arg4)) (m ((c : Thread nD τ).loc main_arg5)) (m ((c : Thread nD τ).loc main_arg6))) (((cfg0.win 7).blk t).view.emb y) := by
  frame_out
  refine in_point m c t y _ ?_ ?_
  all_goals (blk_simp [idx_val t])

theorem point_7_B (c : Dev nD) (t : Fin cfg0.N) (h0 : ¬t.val % 4 = 0) (h1 : 1 ≤ t.val) (y) :
    (out0_B_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun h => h0
      ((hcond0_0 t).mp h)) ((hcond0_1 t).mpr h1) (iblk m c 0 t) (iblk m c 1 t) (iblk m c 2 t) (iblk m c 3 t) (iblk m c 4
      t) (iblk m c 5 t) (iblk m c 6 t) (outsAt0 m c (t.val - 1) (Nat.lt_of_le_of_lt (Nat.sub_le _ _) t.isLt)).2) y
      = gIn (m ((c : Thread nD τ).loc main_arg0)) (m ((c : Thread nD τ).loc main_arg1)) (m ((c : Thread nD τ).loc main_arg2))
          (gH (m ((c : Thread nD τ).loc main_arg3)) (m ((c : Thread nD τ).loc main_arg4)) (m ((c : Thread nD τ).loc main_arg5)) (m ((c : Thread nD τ).loc main_arg6))) (((cfg0.win 7).blk t).view.emb y) := by
  frame_out
  refine in_point m c t y _ ?_ ?_
  all_goals (blk_simp [idx_val t])

theorem final_7 (c : Dev nD) : (dats m 0 c).arrAt 7 (cfgs 0).N
    = gIn (m ((c : Thread nD τ).loc main_arg0)) (m ((c : Thread nD τ).loc main_arg1)) (m ((c : Thread nD τ).loc main_arg2))
        (gH (m ((c : Thread nD τ).loc main_arg3)) (m ((c : Thread nD τ).loc main_arg4)) (m ((c : Thread nD τ).loc main_arg5)) (m ((c : Thread nD τ).loc main_arg6))) := by
  refine (dats m 0 c).arrAt_eq_of_covers 7 _ (by decide +kernel) fun t hf y => ?_
  blk_simp; rw [after0_7]
  have hN : t.val < 4 := lt_of_lt_of_eq t.isLt (show cfg0.N = 4 from N_0)
  by_cases h : t.val % 4 = 0
  · have h1 : ¬1 ≤ t.val := by omega
    rw [outsAt0_A m c t h h1]; dsimp only; exact point_7_A m c t h h1 y
  · have h1 : 1 ≤ t.val := by omega
    rw [outsAt0_B m c t h h1]; dsimp only; exact point_7_B m c t h h1 y

/-- A tile's part of the gain's gradient. -/
def gainPart (c : Dev nD) (t : Fin cfg0.N) : FVec Ideal S1x1024 .f32 :=
  k0_pay3 (accB (iblk m c 3 t) (iblk m c 4 t) (iblk m c 5 t) (iblk m c 6 t)) (iblk m c 1 t) (k0_pay8 (iblk m c 1 t))

theorem pay3_apply (h x : FVec Ideal S512x1024 .f32) (r : FVec Ideal S512x1 .f32) (y : S1x1024.Idx) :
    k0_pay3 h x r y = ∑ i : Fin 512, h (ix2 i (y 1)) * (x (ix2 i (y 1)) * r (ix2 i 0)) := by
  pointwise [k0_pay1, k0_pay3]

theorem gain_eq (c : Dev nD) (y : S1x1024.Idx) :
    ∑ t : Fin cfg0.N, gainPart m c t y
      = gGain (m ((c : Thread nD τ).loc main_arg1)) (gH (m ((c : Thread nD τ).loc main_arg3)) (m ((c : Thread nD τ).loc main_arg4)) (m ((c : Thread nD τ).loc main_arg5)) (m ((c : Thread nD τ).loc main_arg6))) y := by
  simp only [gainPart, pay3_apply]
  pointwise [gGain]
  simp only [Finset.univ_unique, Finset.sum_singleton]
  refine Fin.sum_mul_add_congr fun t r hl => ?_
  rw [acc_point m c t (ix2 r (y 1)) (ix2 ⟨t.val * 512 + r.val, hl⟩ (y 1)) rfl rfl, x_point m c t (ix2 r (y 1)) (ix2 ⟨t.val * 512 + r.val, hl⟩ (y 1)) rfl rfl,
    root_point m c t (ix2 r 0) (ix2 ⟨t.val * 512 + r.val, hl⟩ 0) rfl]
  exact mul_comm _ _

theorem final_8 (c : Dev nD) : (dats m 0 c).arrAt 8 (cfgs 0).N
    = gGain (m ((c : Thread nD τ).loc main_arg1)) (gH (m ((c : Thread nD τ).loc main_arg3)) (m ((c : Thread nD τ).loc main_arg4)) (m ((c : Thread nD τ).loc main_arg5)) (m ((c : Thread nD τ).loc main_arg6))) := by
  refine (dats m 0 c).arrAt_eq_of_after_last 8 t0_3 (by decide +kernel) _ fun j => ?_
  have hN : ∀ t : Fin cfg0.N, t.val < 4 := fun t => lt_of_lt_of_eq t.isLt (show cfg0.N = 4 from N_0)
  blk_simp
  rw [after0_8, Pipeline.eq_sum_fin_of_reset_step_apply_last (fun n h => (outsAt0 m c n h).2) 4 (fun _ => 0) (fun t => gainPart m c t)
    (fun t h j => by
      have := hN t
      rw [outsAt0_A m c t h (by omega)]; frame_out; exact (zero_add _).symm)
    (fun t h j => by
      have := hN t
      rw [outsAt0_B m c t h (by omega)]; frame_out; pointwise [k0_pay4, gainPart]; rfl)
    (le_of_eq N_0) t0_3 rfl j, zero_add]
  exact gain_eq m c _

end Cert.DxKernelIdeal.DxValue

end
-- ==== Proof.MidFrame.lean ====
module

public import proofs.«01_k».proof.Proof.Gen.MidKernelIdeal.Frame
public import proofs.«01_k».proof.Proof.Gen.MidKernelIdeal.Skeleton
public import proofs.«01_k».proof.Proof.Gen.MidKernelIdeal.Launch
public import proofs.«01_k».proof.Proof.Gen.MidKernelIdeal.Points
public import proofs.«01_k».proof.Proof.Gen.MidKernelIdeal
public import proofs.«01_k».proof.Proof.Gen.MidKernel
public import proofs.«01_k».proof.Proof.Gen.MidReferenceIdeal.Run
public import Idealize.ShloMosaic.Lib.Pipeline.FrameBody
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MidKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MidKernelIdeal.Gen

variable {F : FTy → Type} [FloatOps F]

local notation "𝕄" => MT nD τ sig Unit (Elt F) ℕ (UR sig nD τ) ℕ

/-! ## What one row tile contributes -/

/-- The gradient of the hidden pre-activation `a` on one row tile. -/
def daTile (dx : Vec F S512x1024 .f32) (wd : Vec F S1x704x1024 .bf16) (a b : Vec F S1x512x704 .bf16) : FVec F S512x704 .bf16 :=
  k0_pay18 dx wd a b

/-- The gradient of the hidden pre-activation `b` on one row tile. -/
def dbTile (dx : Vec F S512x1024 .f32) (wd : Vec F S1x704x1024 .bf16) (a : Vec F S1x512x704 .bf16) : FVec F S512x704 .f32 :=
  k0_pay19 dx wd a

/-- The rows each tile lays down in the four kept matrices: the scaled output gradient, the gated hidden
    activations, and the two hidden gradients. -/
def dyRows (dx : Vec F S512x1024 .f32) : FVec F S512x1024 .bf16 := k0_pay12 dx
def uRows (a b : Vec F S1x512x704 .bf16) : FVec F S512x704 .bf16 := k0_pay6 (k0_pay15 b) (k0_pay17 a)
def daRows (dx : Vec F S512x1024 .f32) (wd : Vec F S1x704x1024 .bf16) (a b : Vec F S1x512x704 .bf16) : FVec F S512x704 .bf16 :=
  k0_pay4 (daTile dx wd a b)
def dbRows (dx : Vec F S512x1024 .f32) (wd : Vec F S1x704x1024 .bf16) (a : Vec F S1x512x704 .bf16) : FVec F S512x704 .bf16 :=
  k0_pay5 (dbTile dx wd a)

/-- A kept matrix of width 1024 with the tile's rows laid over it, -/
def putTall (i : grid0.Coords) (s : Vec F S2048x1024 .bf16) (w : FVec F S512x1024 .bf16) : Vec F S2048x1024 .bf16 :=
  (Rect.unit (s := S2048x1024) (k0_off1 i) S512x1024.size (k0_off1_inb i)).overlay s w

/-- and one of width 704. -/
def putWide (i : grid0.Coords) (s : Vec F S2048x704 .bf16) (w : FVec F S512x704 .bf16) : Vec F S2048x704 .bf16 :=
  (Rect.unit (s := S2048x704) (k0_off2 i) S512x704.size (k0_off2_inb i)).overlay s w

/-- `x` where the point is the last row tile of its shard, `y` elsewhere. -/
def atLast {α : Type} (i : grid0.Coords) (x y : α) : α := if k0_cond1 i = 1#1 then x else y

/-- Reading back after one store through a rectangle: the stored block over what was there. -/
theorem read_one_store {s : Shape} {e : EltTy} {sp : Space} (v : View sig .tc sp s e) (f : v.ty.Contents (Elt F))
    (r : Rect s) (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [View.read_writes_cons_miss v f ⟨r, w⟩ [] y hy, Rect.overlay_of_not_mem r _ _ hy]
    rfl

set_option maxHeartbeats 2000000 in
/-- One grid point of the kernel: it leaves the inputs as they were, writes the two hidden gradients of its row tile, lays the
    tile's rows over the four kept matrices, and at the shard's last tile writes the three weight gradients. -/
theorem point_run (c : Dev nD) (i : grid0.Coords) (m2 : Memref sig .tc .vmem S512x1024 .f32) (hm2 : m2.IsWhole) (m3 : Memref sig .tc .vmem S2048x1024 .bf16) (hm3 : m3.IsWhole) (m4 : Memref sig .tc .vmem S1x512x704 .bf16) (hm4 : m4.IsWhole) (m5 : Memref sig .tc .vmem S1x512x704 .bf16) (hm5 : m5.IsWhole) (m6 : Memref sig .tc .vmem S1x704x1024 .bf16) (hm6 : m6.IsWhole) (m7 : Memref sig .tc .vmem S1x512x704 .bf16) (hm7 : m7.IsWhole) (m8 : Memref sig .tc .vmem S1x512x704 .bf16) (hm8 : m8.IsWhole) (m9 : Memref sig .tc .vmem S1x2x352x1024 .bf16) (hm9 : m9.IsWhole) (m10 : Memref sig .tc .vmem S1x2x352x1024 .bf16) (hm10 : m10.IsWhole) (m11 : Memref sig .tc .vmem S1x2x352x1024 .bf16) (hm11 : m11.IsWhole) (m12 : Memref sig .tc .vmem S2048x1024 .bf16) (hm12 : m12.IsWhole) (m13 : Memref sig .tc .vmem S2048x704 .bf16) (hm13 : m13.IsWhole) (m14 : Memref sig .tc .vmem S2048x704 .bf16) (hm14 : m14.IsWhole) (m15 : Memref sig .tc .vmem S2048x704 .bf16) (hm15 : m15.IsWhole)
    (dx : Vec F S512x1024 .f32) (h : Vec F S2048x1024 .bf16) (a b : Vec F S1x512x704 .bf16) (wd : Vec F S1x704x1024 .bf16)
    (o5 o6 : Vec F S1x512x704 .bf16) (o7 o8 o9 : Vec F S1x2x352x1024 .bf16) (s0 : Vec F S2048x1024 .bf16) (s1 s2 s3 : Vec F S2048x704 .bf16) (E : Set ℕ) (K : PUnit → sProp 𝕄) :
    iprop(owns (c : Thread nD τ) m2 fullShare dx ∗ owns (c : Thread nD τ) m3 fullShare h ∗ owns (c : Thread nD τ) m4 fullShare a ∗ owns (c : Thread nD τ) m5 fullShare b ∗ owns (c : Thread nD τ) m6 fullShare wd ∗ owns (c : Thread nD τ) m7 fullShare o5 ∗ owns (c : Thread nD τ) m8 fullShare o6 ∗ owns (c : Thread nD τ) m9 fullShare o7 ∗ owns (c : Thread nD τ) m10 fullShare o8 ∗ owns (c : Thread nD τ) m11 fullShare o9 ∗ owns (c : Thread nD τ) m12 fullShare s0 ∗ owns (c : Thread nD τ) m13 fullShare s1 ∗ owns (c : Thread nD τ) m14 fullShare s2 ∗ owns (c : Thread nD τ) m15 fullShare s3
        ∗ (iprop(owns (c : Thread nD τ) m2 fullShare dx ∗ owns (c : Thread nD τ) m3 fullShare h ∗ owns (c : Thread nD τ) m4 fullShare a ∗ owns (c : Thread nD τ) m5 fullShare b ∗ owns (c : Thread nD τ) m6 fullShare wd ∗ owns (c : Thread nD τ) m7 fullShare (k0_pay2 (daTile dx wd a b)) ∗ owns (c : Thread nD τ) m8 fullShare (k0_pay3 (dbTile dx wd a)) ∗ owns (c : Thread nD τ) m9 fullShare (atLast i (k0_pay8 (putWide i s1 (uRows a b)) (putTall i s0 (dyRows dx))) o7) ∗ owns (c : Thread nD τ) m10 fullShare (atLast i (k0_pay9 h (putWide i s2 (daRows dx wd a b))) o8) ∗ owns (c : Thread nD τ) m11 fullShare (atLast i (k0_pay10 h (putWide i s3 (dbRows dx wd a))) o9) ∗ owns (c : Thread nD τ) m12 fullShare (putTall i s0 (dyRows dx)) ∗ owns (c : Thread nD τ) m13 fullShare (putWide i s1 (uRows a b)) ∗ owns (c : Thread nD τ) m14 fullShare (putWide i s2 (daRows dx wd a b)) ∗ owns (c : Thread nD τ) m15 fullShare (putWide i s3 (dbRows dx wd a))) -∗ K ⟨⟩))
      ⊢ wp frame (wpE (defs₀ (F := F)) Variants.none c none) E (cc0_ffn_bwd_mid i m2 hm2 m3 hm3 m4 hm4 m5 hm5 m6 hm6 m7 hm7 m8 hm8 m9 hm9 m10 hm10 m11 hm11 m12 hm12 m13 hm13 m14 hm14 m15 hm15) K := by
  simp only [cc0_ffn_bwd_mid_eq_skeleton]; unfold cc0_ffn_bwd_mid_skel
  simp only [k0_part1_eq_skeleton]
  have l2 : ∀ f, View.readAt (Elt F) m2.view (Rect.unit ![0, 0] ![512, 1024] inb_S512x1024_S512x1024_0_0).toLoadRect f = m2.view.read (Elt F) f :=
    fun f => View.readAt_full _ _ _
  have l3 : ∀ f, View.readAt (Elt F) m3.view (Rect.unit ![0, 0] ![2048, 1024] inb_S2048x1024_S2048x1024_0_0).toLoadRect f = m3.view.read (Elt F) f :=
    fun f => View.readAt_full _ _ _
  have l4 : ∀ f, View.readAt (Elt F) m4.view (Rect.unit ![0, 0, 0] ![1, 512, 704] inb_S1x512x704_S1x512x704_0_0_0).toLoadRect f = m4.view.read (Elt F) f :=
    fun f => View.readAt_full _ _ _
  have l5 : ∀ f, View.readAt (Elt F) m5.view (Rect.unit ![0, 0, 0] ![1, 512, 704] inb_S1x512x704_S1x512x704_0_0_0).toLoadRect f = m5.view.read (Elt F) f :=
    fun f => View.readAt_full _ _ _
  have l6 : ∀ f, View.readAt (Elt F) m6.view (Rect.unit ![0, 0, 0] ![1, 704, 1024] inb_S1x704x1024_S1x704x1024_0_0_0).toLoadRect f = m6.view.read (Elt F) f :=
    fun f => View.readAt_full _ _ _
  have l12 : ∀ f, View.readAt (Elt F) m12.view (Rect.unit ![0, 0] ![2048, 1024] inb_S2048x1024_S2048x1024_0_0).toLoadRect f = m12.view.read (Elt F) f :=
    fun f => View.readAt_full _ _ _
  have l13 : ∀ f, View.readAt (Elt F) m13.view (Rect.unit ![0, 0] ![2048, 704] inb_S2048x704_S2048x704_0_0).toLoadRect f = m13.view.read (Elt F) f :=
    fun f => View.readAt_full _ _ _
  have l14 : ∀ f, View.readAt (Elt F) m14.view (Rect.unit ![0, 0] ![2048, 704] inb_S2048x704_S2048x704_0_0).toLoadRect f = m14.view.read (Elt F) f :=
    fun f => View.readAt_full _ _ _
  have l15 : ∀ f, View.readAt (Elt F) m15.view (Rect.unit ![0, 0] ![2048, 704] inb_S2048x704_S2048x704_0_0).toLoadRect f = m15.view.read (Elt F) f :=
    fun f => View.readAt_full _ _ _
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  obtain rfl := hm2.eq_unread e2; obtain rfl := hm3.eq_unread e3; obtain rfl := hm4.eq_unread e4; obtain rfl := hm5.eq_unread e5; obtain rfl := hm6.eq_unread e6; obtain rfl := hm7.eq_unread e7; obtain rfl := hm8.eq_unread e8; obtain rfl := hm9.eq_unread e9; obtain rfl := hm10.eq_unread e10; obtain rfl := hm11.eq_unread e11; obtain rfl := hm12.eq_unread e12; obtain rfl := hm13.eq_unread e13; obtain rfl := hm14.eq_unread e14; obtain rfl := hm15.eq_unread e15
  by_cases hlast : k0_cond1 i = 1#1
  · sl_exec (disch := first | sl_exact hlast)
    sl_step
    iapply Hk
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; refine (View.read_writes_full _ _ _ _ _).trans ?_; delta point_run.sl.r_2; simp only [l2, l3, l4, l5, l6, l12, l13, l14, l15, read_one_store, putTall, putWide, dyRows, uRows, daRows, dbRows, daTile, dbTile, e2, e3, e4, e5, e6, e7, e8, e9, e10, e11, e12, e13, e14, e15]
    isplitl [H8]
    · iexists _; isplitr; swap; · iexact H8
      ipureintro; refine (View.read_writes_full _ _ _ _ _).trans ?_; delta point_run.sl.r_3; simp only [l2, l3, l4, l5, l6, l12, l13, l14, l15, read_one_store, putTall, putWide, dyRows, uRows, daRows, dbRows, daTile, dbTile, e2, e3, e4, e5, e6, e7, e8, e9, e10, e11, e12, e13, e14, e15]
    isplitl [H9]
    · iexists _; isplitr; swap; · iexact H9
      ipureintro; rw [atLast, if_pos hlast]; refine (View.read_writes_full _ _ _ _ _).trans ?_; delta point_run.sl.H12_1; delta point_run.sl.H13_1; delta point_run.sl.r; delta point_run.sl.r_1; simp only [l2, l3, l4, l5, l6, l12, l13, l14, l15, read_one_store, putTall, putWide, dyRows, uRows, daRows, dbRows, daTile, dbTile, e2, e3, e4, e5, e6, e7, e8, e9, e10, e11, e12, e13, e14, e15]
    isplitl [H10]
    · iexists _; isplitr; swap; · iexact H10
      ipureintro; rw [atLast, if_pos hlast]; refine (View.read_writes_full _ _ _ _ _).trans ?_; delta point_run.sl.H14_1; delta point_run.sl.r_2; simp only [l2, l3, l4, l5, l6, l12, l13, l14, l15, read_one_store, putTall, putWide, dyRows, uRows, daRows, dbRows, daTile, dbTile, e2, e3, e4, e5, e6, e7, e8, e9, e10, e11, e12, e13, e14, e15]
    isplitl [H11]
    · iexists _; isplitr; swap; · iexact H11
      ipureintro; rw [atLast, if_pos hlast]; refine (View.read_writes_full _ _ _ _ _).trans ?_; delta point_run.sl.H15_1; delta point_run.sl.r_3; simp only [l2, l3, l4, l5, l6, l12, l13, l14, l15, read_one_store, putTall, putWide, dyRows, uRows, daRows, dbRows, daTile, dbTile, e2, e3, e4, e5, e6, e7, e8, e9, e10, e11, e12, e13, e14, e15]
    isplitl [H12]
    · iexists _; isplitr; swap; · iexact H12
      ipureintro; delta point_run.sl.H12_1; simp only [l2, l3, l4, l5, l6, l12, l13, l14, l15, read_one_store, putTall, putWide, dyRows, uRows, daRows, dbRows, daTile, dbTile, e2, e3, e4, e5, e6, e7, e8, e9, e10, e11, e12, e13, e14, e15]
    isplitl [H13]
    · iexists _; isplitr; swap; · iexact H13
      ipureintro; delta point_run.sl.H13_1; delta point_run.sl.r; delta point_run.sl.r_1; simp only [l2, l3, l4, l5, l6, l12, l13, l14, l15, read_one_store, putTall, putWide, dyRows, uRows, daRows, dbRows, daTile, dbTile, e2, e3, e4, e5, e6, e7, e8, e9, e10, e11, e12, e13, e14, e15]
    isplitl [H14]
    · iexists _; isplitr; swap; · iexact H14
      ipureintro; delta point_run.sl.H14_1; delta point_run.sl.r_2; simp only [l2, l3, l4, l5, l6, l12, l13, l14, l15, read_one_store, putTall, putWide, dyRows, uRows, daRows, dbRows, daTile, dbTile, e2, e3, e4, e5, e6, e7, e8, e9, e10, e11, e12, e13, e14, e15]
    iexists _; isplitr; swap; · iexact H15
    ipureintro; delta point_run.sl.H15_1; delta point_run.sl.r_3; simp only [l2, l3, l4, l5, l6, l12, l13, l14, l15, read_one_store, putTall, putWide, dyRows, uRows, daRows, dbRows, daTile, dbTile, e2, e3, e4, e5, e6, e7, e8, e9, e10, e11, e12, e13, e14, e15]
  · sl_exec (disch := first | sl_exact hlast)
    sl_step
    iapply Hk
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; refine (View.read_writes_full _ _ _ _ _).trans ?_; delta point_run.sl.r_6; simp only [l2, l3, l4, l5, l6, l12, l13, l14, l15, read_one_store, putTall, putWide, dyRows, uRows, daRows, dbRows, daTile, dbTile, e2, e3, e4, e5, e6, e7, e8, e9, e10, e11, e12, e13, e14, e15]
    isplitl [H8]
    · iexists _; isplitr; swap; · iexact H8
      ipureintro; refine (View.read_writes_full _ _ _ _ _).trans ?_; delta point_run.sl.r_7; simp only [l2, l3, l4, l5, l6, l12, l13, l14, l15, read_one_store, putTall, putWide, dyRows, uRows, daRows, dbRows, daTile, dbTile, e2, e3, e4, e5, e6, e7, e8, e9, e10, e11, e12, e13, e14, e15]
    isplitl [H9]
    · iexists _; isplitr; swap; · iexact H9
      ipureintro; rw [atLast, if_neg hlast]; exact e9
    isplitl [H10]
    · iexists _; isplitr; swap; · iexact H10
      ipureintro; rw [atLast, if_neg hlast]; exact e10
    isplitl [H11]
    · iexists _; isplitr; swap; · iexact H11
      ipureintro; rw [atLast, if_neg hlast]; exact e11
    isplitl [H12]
    · iexists _; isplitr; swap; · iexact H12
      ipureintro; simp only [l2, l3, l4, l5, l6, l12, l13, l14, l15, read_one_store, putTall, putWide, dyRows, uRows, daRows, dbRows, daTile, dbTile, e2, e3, e4, e5, e6, e7, e8, e9, e10, e11, e12, e13, e14, e15]
    isplitl [H13]
    · iexists _; isplitr; swap; · iexact H13
      ipureintro; delta point_run.sl.r_4; delta point_run.sl.r_5; simp only [l2, l3, l4, l5, l6, l12, l13, l14, l15, read_one_store, putTall, putWide, dyRows, uRows, daRows, dbRows, daTile, dbTile, e2, e3, e4, e5, e6, e7, e8, e9, e10, e11, e12, e13, e14, e15]
    isplitl [H14]
    · iexists _; isplitr; swap; · iexact H14
      ipureintro; delta point_run.sl.r_6; simp only [l2, l3, l4, l5, l6, l12, l13, l14, l15, read_one_store, putTall, putWide, dyRows, uRows, daRows, dbRows, daTile, dbTile, e2, e3, e4, e5, e6, e7, e8, e9, e10, e11, e12, e13, e14, e15]
    iexists _; isplitr; swap; · iexact H15
    ipureintro; delta point_run.sl.r_7; simp only [l2, l3, l4, l5, l6, l12, l13, l14, l15, read_one_store, putTall, putWide, dyRows, uRows, daRows, dbRows, daTile, dbTile, e2, e3, e4, e5, e6, e7, e8, e9, e10, e11, e12, e13, e14, e15]

end Cert.MidKernelIdeal

end
-- ==== Proof.MidRun.lean ====
module

public import proofs.«01_k».proof.Proof.MidFrame
public import Idealize.ShloMosaic.Lib.Pipeline.ValueKit

@[expose] public section

set_option maxRecDepth 16384

noncomputable section

namespace Cert.MidKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MidKernelIdeal.Gen

variable {F : FTy → Type} [FloatOps F]

local notation "𝕄" => MT nD τ sig Unit (Elt F) ℕ (UR sig nD τ) ℕ

/-! ## Four row tiles stacked -/

/-- Four tiles of 512 rows as one matrix of 2048 rows, -/
def stackTall (f : Fin 4 → FVec F S512x1024 .bf16) : Vec F S2048x1024 .bf16 := fun y =>
  f ⟨(y 0).val / 512, Nat.div_lt_of_lt_mul (y 0).isLt⟩ (ix2 ⟨(y 0).val % 512, Nat.mod_lt _ (by decide)⟩ (y 1))

/-- and of the other width. -/
def stackWide (f : Fin 4 → FVec F S512x704 .bf16) : Vec F S2048x704 .bf16 := fun y =>
  f ⟨(y 0).val / 512, Nat.div_lt_of_lt_mul (y 0).isLt⟩ (ix2 ⟨(y 0).val % 512, Nat.mod_lt _ (by decide)⟩ (y 1))

/-- The first `n` row tiles of `s` are those of `g`. -/
def SameTiles {w : ℕ} {α : Type} (n : ℕ) (s g : (⟨2, ![2048, w]⟩ : Shape).Idx → α) : Prop :=
  ∀ y, (y 0).val < 512 * n → s y = g y

theorem SameTiles.all {w : ℕ} {α : Type} {s g : (⟨2, ![2048, w]⟩ : Shape).Idx → α} (h : SameTiles 4 s g) : s = g :=
  funext fun y => h y (y 0).isLt

theorem SameTiles.none {w : ℕ} {α : Type} (s g : (⟨2, ![2048, w]⟩ : Shape).Idx → α) : SameTiles 0 s g :=
  fun _ hy => absurd hy (Nat.not_lt_zero _)

theorem putTall_same (i : grid0.Coords) (j : Fin 4) (hi : (i 1).val = j.val) (f : Fin 4 → FVec F S512x1024 .bf16) (s : Vec F S2048x1024 .bf16)
    (h : SameTiles j.val s (stackTall f)) : SameTiles (j.val + 1) (putTall i s (f j)) (stackTall f) := by
  intro y hy
  have o0 : k0_off1 i 0 = 512 * j.val := by rw [k0_off1_eq, ← hi]; rfl
  have o1 : k0_off1 i 1 = 0 := by rw [k0_off1_eq]; rfl
  by_cases hr : 512 * j.val ≤ (y 0).val
  · have hq : (y 0).val / 512 = j.val := by omega
    have hm : (y 0).val % 512 = (y 0).val - 512 * j.val := by omega
    have hx : (Rect.unit (s := S2048x1024) (k0_off1 i) S512x1024.size (k0_off1_inb i)).emb (ix2 ⟨(y 0).val % 512, Nat.mod_lt _ (by decide)⟩ (y 1)) = y :=
      Rect.emb_eq_of_coords _ _ _ (Fin.forall_fin_two.mpr
        ⟨show (y 0).val = k0_off1 i 0 + 1 * ((y 0).val % 512) by omega, show (y 1).val = k0_off1 i 1 + 1 * (y 1).val by omega⟩)
    have e : j = ⟨(y 0).val / 512, Nat.div_lt_of_lt_mul (y 0).isLt⟩ := Fin.ext hq.symm
    unfold putTall stackTall
    conv_lhs => rw [← hx]
    rw [Rect.overlay_emb]
    conv_lhs => rw [e]
  · unfold putTall
    rw [Rect.overlay_of_not_mem]
    · exact h y (by omega)
    · rw [Rect.mem_set_unit]
      intro hall
      have := hall 0
      omega

theorem putWide_same (i : grid0.Coords) (j : Fin 4) (hi : (i 1).val = j.val) (f : Fin 4 → FVec F S512x704 .bf16) (s : Vec F S2048x704 .bf16)
    (h : SameTiles j.val s (stackWide f)) : SameTiles (j.val + 1) (putWide i s (f j)) (stackWide f) := by
  intro y hy
  have o0 : k0_off2 i 0 = 512 * j.val := by rw [k0_off2_eq, ← hi]; rfl
  have o1 : k0_off2 i 1 = 0 := by rw [k0_off2_eq]; rfl
  by_cases hr : 512 * j.val ≤ (y 0).val
  · have hq : (y 0).val / 512 = j.val := by omega
    have hx : (Rect.unit (s := S2048x704) (k0_off2 i) S512x704.size (k0_off2_inb i)).emb (ix2 ⟨(y 0).val % 512, Nat.mod_lt _ (by decide)⟩ (y 1)) = y :=
      Rect.emb_eq_of_coords _ _ _ (Fin.forall_fin_two.mpr
        ⟨show (y 0).val = k0_off2 i 0 + 1 * ((y 0).val % 512) by omega, show (y 1).val = k0_off2 i 1 + 1 * (y 1).val by omega⟩)
    have e : j = ⟨(y 0).val / 512, Nat.div_lt_of_lt_mul (y 0).isLt⟩ := Fin.ext hq.symm
    unfold putWide stackWide
    conv_lhs => rw [← hx]
    rw [Rect.overlay_emb]
    conv_lhs => rw [e]
  · unfold putWide
    rw [Rect.overlay_of_not_mem]
    · exact h y (by omega)
    · rw [Rect.mem_set_unit]
      intro hall
      have := hall 0
      omega

variable (m : (ℓ : Loc nD τ sig) → Buf (Elt F) ℓ) (ρ : Dev nD → PrngReg)

/-! ## A shard's four kept matrices -/

theorem point_lt (t : Fin cfg0.N) : t.val < 16 := lt_of_lt_of_eq t.isLt N_0

/-- Row tile `j` of the shard that point `t` works on. -/
def tileOf (t : Fin cfg0.N) (j : Fin 4) : Fin cfg0.N :=
  ⟨4 * (t.val / 4) + j.val, lt_of_lt_of_eq (by have := point_lt t; omega) N_0.symm⟩

theorem tileOf_congr {t u : Fin cfg0.N} (h : t.val / 4 = u.val / 4) : tileOf t = tileOf u :=
  funext fun j => Fin.ext (by show 4 * (t.val / 4) + j.val = 4 * (u.val / 4) + j.val; rw [h])

/-- A point's own row tile. -/
def own (t : Fin cfg0.N) : Fin 4 := ⟨t.val % 4, Nat.mod_lt _ (by decide)⟩

theorem tileOf_own (t : Fin cfg0.N) : tileOf t (own t) = t := Fin.ext (Nat.div_add_mod t.val 4)

theorem coord_own (t : Fin cfg0.N) : (grid0.coords t 1).val = (own t).val := by
  have e : (grid0.coords t 1).val = t.val / 1 % 4 := Pipeline.Grid.coords_val t 1 (by decide) rfl
  rw [e, Nat.div_one]; rfl

/-- The last row tile is where the position in the shard is 3. -/
theorem last_iff (t : Fin cfg0.N) : k0_cond1 (grid0.coords t) = 1#1 ↔ t.val % 4 = 3 := by
  have ht := point_lt t
  have e : (grid0.coords t 1).val = t.val % 4 := coord_own t
  simp only [k0_cond1, e]
  word_cmp

def dyAll (c : Dev nD) (t : Fin cfg0.N) : Vec F S2048x1024 .bf16 := stackTall fun j => dyRows (iblk m c 0 (tileOf t j))
def uAll (c : Dev nD) (t : Fin cfg0.N) : Vec F S2048x704 .bf16 :=
  stackWide fun j => uRows (iblk m c 2 (tileOf t j)) (iblk m c 3 (tileOf t j))
def daAll (c : Dev nD) (t : Fin cfg0.N) : Vec F S2048x704 .bf16 :=
  stackWide fun j => daRows (iblk m c 0 (tileOf t j)) (iblk m c 4 (tileOf t j)) (iblk m c 2 (tileOf t j)) (iblk m c 3 (tileOf t j))
def dbAll (c : Dev nD) (t : Fin cfg0.N) : Vec F S2048x704 .bf16 :=
  stackWide fun j => dbRows (iblk m c 0 (tileOf t j)) (iblk m c 4 (tileOf t j)) (iblk m c 2 (tileOf t j))

/-- What the four kept buffers hold before point `n`: the row tiles of its shard that the points before it have laid down. -/
def Kept (c : Dev nD) (n : ℕ) (s0 : Vec F S2048x1024 .bf16) (s1 s2 s3 : Vec F S2048x704 .bf16) : Prop :=
  ∀ t : Fin cfg0.N, t.val = n → SameTiles (n % 4) s0 (dyAll m c t) ∧ SameTiles (n % 4) s1 (uAll m c t)
    ∧ SameTiles (n % 4) s2 (daAll m c t) ∧ SameTiles (n % 4) s3 (dbAll m c t)

section Step

variable {m} {c : Dev nD} {t : Fin cfg0.N} {s0 : Vec F S2048x1024 .bf16} {s1 s2 s3 : Vec F S2048x704 .bf16}
  (h : Kept m c t.val s0 s1 s2 s3)
include h

theorem Kept.lay : SameTiles (t.val % 4 + 1) (putTall (grid0.coords t) s0 (dyRows (iblk m c 0 t))) (dyAll m c t)
    ∧ SameTiles (t.val % 4 + 1) (putWide (grid0.coords t) s1 (uRows (iblk m c 2 t) (iblk m c 3 t))) (uAll m c t)
    ∧ SameTiles (t.val % 4 + 1) (putWide (grid0.coords t) s2 (daRows (iblk m c 0 t) (iblk m c 4 t) (iblk m c 2 t) (iblk m c 3 t))) (daAll m c t)
    ∧ SameTiles (t.val % 4 + 1) (putWide (grid0.coords t) s3 (dbRows (iblk m c 0 t) (iblk m c 4 t) (iblk m c 2 t))) (dbAll m c t) := by
  obtain ⟨h0, h1, h2, h3⟩ := h t rfl
  have r0 := putTall_same (grid0.coords t) (own t) (coord_own t) (fun j => dyRows (iblk m c 0 (tileOf t j))) s0 h0
  have r1 := putWide_same (grid0.coords t) (own t) (coord_own t) (fun j => uRows (iblk m c 2 (tileOf t j)) (iblk m c 3 (tileOf t j))) s1 h1
  have r2 := putWide_same (grid0.coords t) (own t) (coord_own t)
    (fun j => daRows (iblk m c 0 (tileOf t j)) (iblk m c 4 (tileOf t j)) (iblk m c 2 (tileOf t j)) (iblk m c 3 (tileOf t j))) s2 h2
  have r3 := putWide_same (grid0.coords t) (own t) (coord_own t)
    (fun j => dbRows (iblk m c 0 (tileOf t j)) (iblk m c 4 (tileOf t j)) (iblk m c 2 (tileOf t j))) s3 h3
  beta_reduce at r0 r1 r2 r3
  rw [tileOf_own] at r0 r1 r2 r3
  exact ⟨r0, r1, r2, r3⟩

/-- A point lays its tile down, so the buffers hold what they should before the next point, -/
theorem Kept.next : Kept m c (t.val + 1) (putTall (grid0.coords t) s0 (dyRows (iblk m c 0 t)))
    (putWide (grid0.coords t) s1 (uRows (iblk m c 2 t) (iblk m c 3 t)))
    (putWide (grid0.coords t) s2 (daRows (iblk m c 0 t) (iblk m c 4 t) (iblk m c 2 t) (iblk m c 3 t)))
    (putWide (grid0.coords t) s3 (dbRows (iblk m c 0 t) (iblk m c 4 t) (iblk m c 2 t))) := by
  intro u hu
  by_cases hl : t.val % 4 = 3
  · have e : (t.val + 1) % 4 = 0 := by omega
    rw [e]
    exact ⟨.none _ _, .none _ _, .none _ _, .none _ _⟩
  · have e : (t.val + 1) % 4 = t.val % 4 + 1 := by omega
    have ht : tileOf u = tileOf t := tileOf_congr (by omega)
    rw [e]
    unfold dyAll uAll daAll dbAll
    rw [ht]
    exact h.lay

/-- and at the shard's last tile the buffers hold the whole shard. -/
theorem Kept.whole (hl : t.val % 4 = 3) : putTall (grid0.coords t) s0 (dyRows (iblk m c 0 t)) = dyAll m c t
    ∧ putWide (grid0.coords t) s1 (uRows (iblk m c 2 t) (iblk m c 3 t)) = uAll m c t
    ∧ putWide (grid0.coords t) s2 (daRows (iblk m c 0 t) (iblk m c 4 t) (iblk m c 2 t) (iblk m c 3 t)) = daAll m c t
    ∧ putWide (grid0.coords t) s3 (dbRows (iblk m c 0 t) (iblk m c 4 t) (iblk m c 2 t)) = dbAll m c t := by
  have r := h.lay
  rw [hl] at r
  exact ⟨r.1.all, r.2.1.all, r.2.2.1.all, r.2.2.2.all⟩

end Step

/-! ## The pipeline's proof data -/

abbrev kept0 : Memref sig .tc .vmem S2048x1024 .bf16 := Memref.whole cc0_scratch0
abbrev kept1 : Memref sig .tc .vmem S2048x704 .bf16 := Memref.whole cc0_scratch1
abbrev kept2 : Memref sig .tc .vmem S2048x704 .bf16 := Memref.whole cc0_scratch2
abbrev kept3 : Memref sig .tc .vmem S2048x704 .bf16 := Memref.whole cc0_scratch3

/-- Between points the four kept buffers hold their shard's tiles so far, and the generator register something. -/
def between (c : Dev nD) (n : ℕ) : sProp 𝕄 :=
  iprop(∃ s0 s1 s2 s3, ⌜Kept m c n s0 s1 s2 s3⌝ ∗ owns (c : Thread nD τ) kept0 fullShare s0 ∗ owns (c : Thread nD τ) kept1 fullShare s1
    ∗ owns (c : Thread nD τ) kept2 fullShare s2 ∗ owns (c : Thread nD τ) kept3 fullShare s3 ∗ (∃ r, prngReg c r))

theorem scratch_eq (c : Dev nD) : (Pipeline.ΦA spec0 c : sProp 𝕄)
    = iprop(iprop((∃ d, owns (c : Thread nD τ) kept0 fullShare d) ∗ (∃ d, owns (c : Thread nD τ) kept1 fullShare d)
      ∗ (∃ d, owns (c : Thread nD τ) kept2 fullShare d) ∗ (∃ d, owns (c : Thread nD τ) kept3 fullShare d)) ∗ (∃ r, prngReg c r)) := by
  unfold Pipeline.ΦA; rw [scopedRest0_eq]; simp only [kept0, kept1, kept2, kept3, owns_whole]; try rfl

theorem between_start (c : Dev nD) : (Pipeline.ΦA spec0 c : sProp 𝕄) ⊢ between m c 0 := by
  rw [scratch_eq]; unfold between
  iintro ⟨⟨⟨%s0, H0⟩, ⟨%s1, H1⟩, ⟨%s2, H2⟩, ⟨%s3, H3⟩⟩, Hg⟩
  iexists s0, s1, s2, s3
  isplitr
  · ipureintro; exact fun t _ => ⟨.none _ _, .none _ _, .none _ _, .none _ _⟩
  isplitl [H0]; · iexact H0
  isplitl [H1]; · iexact H1
  isplitl [H2]; · iexact H2
  isplitl [H3]; · iexact H3
  iexact Hg

theorem between_end (c : Dev nD) (n : ℕ) : between m c n ⊢ (Pipeline.ΦA spec0 c : sProp 𝕄) := by
  rw [scratch_eq]; unfold between
  iintro ⟨%s0, %s1, %s2, %s3, -, H0, H1, H2, H3, Hg⟩
  isplitl [H0 H1 H2 H3]
  · isplitl [H0]; · iexists _; iexact H0
    isplitl [H1]; · iexists _; iexact H1
    isplitl [H2]; · iexists _; iexact H2
    iexists _; iexact H3
  iexact Hg

/-- What the kernel leaves, window by window: the inputs as they came; the two hidden gradients of the point's own row tile; the three
    weight gradients of the point's shard. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (daTile (iblk m c 0 t) (iblk m c 4 t) (iblk m c 2 t) (iblk m c 3 t))
    | ⟨6, _⟩ => k0_pay3 (dbTile (iblk m c 0 t) (iblk m c 4 t) (iblk m c 2 t))
    | ⟨7, _⟩ => k0_pay8 (uAll m c t) (dyAll m c t)
    | ⟨8, _⟩ => k0_pay9 (iblk m c 1 t) (daAll m c t)
    | ⟨9, _⟩ => k0_pay10 (iblk m c 1 t) (dbAll m c t)
  Φ t := between m c t.val
  q _ := fullShare
  owed _ := 0

theorem A_eq (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t
    = k0_pay2 (daTile (iblk m c 0 t) (iblk m c 4 t) (iblk m c 2 t) (iblk m c 3 t)) := by dsimp only [dats]
theorem left6 (c : Dev nD) (t : Fin cfg0.N) : (dats m 0 c).after 6 t
    = k0_pay3 (dbTile (iblk m c 0 t) (iblk m c 4 t) (iblk m c 2 t)) := by dsimp only [dats]
theorem left7 (c : Dev nD) (t : Fin cfg0.N) : (dats m 0 c).after 7 t = k0_pay8 (uAll m c t) (dyAll m c t) := by dsimp only [dats]
theorem left8 (c : Dev nD) (t : Fin cfg0.N) : (dats m 0 c).after 8 t = k0_pay9 (iblk m c 1 t) (daAll m c t) := by dsimp only [dats]
theorem left9 (c : Dev nD) (t : Fin cfg0.N) : (dats m 0 c).after 9 t = k0_pay10 (iblk m c 1 t) (dbAll m c t) := by dsimp only [dats]

theorem found0 (c : Dev nD) (t : Fin cfg0.N) (d) : (dats m 0 c).before 0 t d = iblk m c 0 t :=
  before0_0_of m (dats m 0 c) (A_eq m c 0) (left0 m c) t d
theorem found1 (c : Dev nD) (t : Fin cfg0.N) (d) : (dats m 0 c).before 1 t d = iblk m c 1 t :=
  before0_1_of m (dats m 0 c) (A_eq m c 1) (left1 m c) t d
theorem found2 (c : Dev nD) (t : Fin cfg0.N) (d) : (dats m 0 c).before 2 t d = iblk m c 2 t :=
  before0_2_of m (dats m 0 c) (A_eq m c 2) (left2 m c) t d
theorem found3 (c : Dev nD) (t : Fin cfg0.N) (d) : (dats m 0 c).before 3 t d = iblk m c 3 t :=
  before0_3_of m (dats m 0 c) (A_eq m c 3) (left3 m c) t d
theorem found4 (c : Dev nD) (t : Fin cfg0.N) (d) : (dats m 0 c).before 4 t d = iblk m c 4 t :=
  before0_4_of m (dats m 0 c) (A_eq m c 4) (left4 m c) t d

/-! ## The body at a point -/

/-- A window stored at every point is left at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem idle_of_not_last (t : Fin cfg0.N) (h : ¬ t.val % 4 = 3) : (!(k0_cond1 (grid0.coords t) == 1#1)) = true := by
  have := (last_iff t).not.mpr h
  simpa using this

theorem live_of_last (t : Fin cfg0.N) (h : t.val % 4 = 3) : (!(k0_cond1 (grid0.coords t) == 1#1)) = false := by
  have := (last_iff t).mpr h
  simpa using this

/-- What a point starts from, -/
def startsFrom (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it leaves. -/
def leavesAll (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2000000 in
/-- The kernel at any point takes the one to the other. -/
theorem point_sound (c : Dev nD) (t : Fin cfg0.N) :
    startsFrom m c t ⊢ wp frame (wpE (defs₀ (F := F)) Variants.none c none) Set.univ (bodyAt0 t) (fun _ => leavesAll m c t) := by
  unfold startsFrom leavesAll bodyAt0
  simp only [found0, found1, found2, found3, found4]
  rw [show (dats m 0 c).owesAt () t.succ = (dats m 0 c).owesAt () t.castSucc from rfl,
    show (dats m 0 c).Φ t.castSucc = between m c t.val from rfl, show (dats m 0 c).Φ t.succ = between m c (t.val + 1) from rfl]
  unfold between
  by_cases hl : t.val % 4 = 3
  · rw [leaves_live m c 0 t rfl, left0]
    rw [leaves_live m c 1 t rfl, left1]
    rw [leaves_live m c 2 t rfl, left2]
    rw [leaves_live m c 3 t rfl, left3]
    rw [leaves_live m c 4 t rfl, left4]
    rw [leaves_live m c 5 t rfl, left5]
    rw [leaves_live m c 6 t rfl, left6]
    rw [leaves_live m c 7 t (live_of_last t hl), left7]
    rw [leaves_live m c 8 t (live_of_last t hl), left8]
    rw [leaves_live m c 9 t (live_of_last t hl), left9]
    iintro ⟨⟨%s0, %s1, %s2, %s3, %hk, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have e := hk.whole hl
    iapply (point_run c (grid0.coords t) _ _ _ _ _ _ _ _ _ _ _ _ _ _ _ _ _ _ _ _ _ _ _ _ _ _ _ _
      (iblk m c 0 t) (iblk m c 1 t) (iblk m c 2 t) (iblk m c 3 t) (iblk m c 4 t) _ _ _ _ _ s0 s1 s2 s3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    rw [atLast, if_pos ((last_iff t).mpr hl), atLast, if_pos ((last_iff t).mpr hl), atLast, if_pos ((last_iff t).mpr hl)]
    iintro ⟨H0, H1, H2, H3, H4, H5, H6, H7, H8, H9, S0, S1, S2, S3⟩
    isplitl [S0 S1 S2 S3 Hg]
    · iexists _, _, _, _; isplitr; · ipureintro; exact hk.next
      isplitl [S0]; · iexact S0
      isplitl [S1]; · iexact S1
      isplitl [S2]; · iexact S2
      isplitl [S3]; · iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [← e.2.1, ← e.1]; iexact H7
    isplitl [H8]; · rw [← e.2.2.1]; iexact H8
    rw [← e.2.2.2]; iexact H9
  · rw [leaves_live m c 0 t rfl, left0]
    rw [leaves_live m c 1 t rfl, left1]
    rw [leaves_live m c 2 t rfl, left2]
    rw [leaves_live m c 3 t rfl, left3]
    rw [leaves_live m c 4 t rfl, left4]
    rw [leaves_live m c 5 t rfl, left5]
    rw [leaves_live m c 6 t rfl, left6]
    rw [(dats m 0 c).leavesExact_idle 7 t (idle_of_not_last t hl) (by rw [← Bool.not_eq_true]; exact fun hf => hl ((flush0_7 t).mp hf))]
    rw [(dats m 0 c).leavesExact_idle 8 t (idle_of_not_last t hl) (by rw [← Bool.not_eq_true]; exact fun hf => hl ((flush0_8 t).mp hf))]
    rw [(dats m 0 c).leavesExact_idle 9 t (idle_of_not_last t hl) (by rw [← Bool.not_eq_true]; exact fun hf => hl ((flush0_9 t).mp hf))]
    iintro ⟨⟨%s0, %s1, %s2, %s3, %hk, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hn := fun x => hl ((last_iff t).mp x)
    iapply (point_run c (grid0.coords t) _ _ _ _ _ _ _ _ _ _ _ _ _ _ _ _ _ _ _ _ _ _ _ _ _ _ _ _
      (iblk m c 0 t) (iblk m c 1 t) (iblk m c 2 t) (iblk m c 3 t) (iblk m c 4 t) _ _ _ _ _ s0 s1 s2 s3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    rw [atLast, if_neg hn, atLast, if_neg hn, atLast, if_neg hn]
    iintro ⟨H0, H1, H2, H3, H4, H5, H6, H7, H8, H9, S0, S1, S2, S3⟩
    isplitl [S0 S1 S2 S3 Hg]
    · iexists _, _, _, _; isplitr; · ipureintro; exact hk.next
      isplitl [S0]; · iexact S0
      isplitl [S1]; · iexact S1
      isplitl [S2]; · iexact S2
      isplitl [S3]; · iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

theorem body_row (t : Fin cfg0.N) : defs₀ (F := F) .tc cfg0.body (cfg0.bodyArgs t (cfg0.slots t)) = bodyAt0 t := by
  unfold defs₀; rw [Defs.onTc_tc]

theorem every_point (c : Dev nD) : BodyObligation (dats (F := F) m 0 c) (defs₀ (F := F)) Variants.none () Set.univ := fun t => by
  rw [bigSep_W0, bigSep_W0, body_row]
  exact triple_restated (point_sound m c t) rfl .rfl fun _ => .rfl

/-! ## The run and the frame -/

-- the implicit arguments are found by unifying with the conclusion, which unfolds plain definitions in a type
set_option backward.isDefEq.respectTransparency.types false in
/-- The whole launch: what every array ends at, and no semaphore left raised. -/
theorem launch_run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (every_point m c).loose) (hshare := fun c => (dats m 0 c).share_full fun _ => rfl)
    (howed := fun _ _ => rfl) (V := V m) (hmain := hmain m Variants.none) (hA := A_eq m)
    (hin := fun c => between_start m c) (hout := fun c => between_end m c _)

theorem array_run : θ_run defs (onTc (τ := τ) (main (F := F))) (s₀ m ρ) (Pipeline.FramePost cfgs (dats m) 0 (V m)) :=
  (θ_run defs _ _).mono (fun _ h => h.1) (launch_run m ρ)

/-- Every run ends with the arguments as they were and no semaphore raised. -/
theorem ends_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (array_run m ρ)) ((θ_run defs _ _).mono (fun _ h => h.2) (launch_run m ρ))

end Cert.MidKernelIdeal

end
-- ==== Proof.SiluSlope.lean ====
module

public import Idealize.ShloMosaic.Lib.Pipeline.ValueKit
public import Idealize.ShloMosaic.Lib.Claim

@[expose] public section

noncomputable section

open Idealize.ShloMosaic
open scoped BigOperators

/-! # The slope of silu, over the extended reals

The kernel writes `t * (s * (1 + a * (1 - s)))`, `s` the logistic function of `a`; the derivative written
out is `t * s + (a * t) * (s * (1 - s))`. They agree at every extended real `a` when the gradient `t` that
comes from above is a real number. -/

namespace Cert.SiluSlope

/-- An extended real that is a real number. -/
def IsNumber (x : EReal) : Prop := ∃ r : ℝ, x = (r : EReal)

theorem IsNumber.mul {x y : EReal} (hx : IsNumber x) (hy : IsNumber y) : IsNumber (x * y) := by
  obtain ⟨r, rfl⟩ := hx; obtain ⟨q, rfl⟩ := hy
  exact ⟨r * q, (EReal.coe_mul r q).symm⟩

theorem IsNumber.sum {ι : Type*} (s : Finset ι) (f : ι → EReal) (h : ∀ k, IsNumber (f k)) : IsNumber (∑ k ∈ s, f k) := by
  classical
  induction s using Finset.induction_on with
  | empty => exact ⟨0, by simp⟩
  | insert a s ha ih =>
    rw [Finset.sum_insert ha]
    obtain ⟨r, hr⟩ := h a; obtain ⟨q, hq⟩ := ih
    exact ⟨r + q, by rw [hr, hq, EReal.coe_add]⟩

/-- What the test "below infinity in absolute value" says. -/
theorem isNumber_of_abs_lt {x : EReal} (h : max x (-x) < ⊤) : IsNumber x := by
  induction x with
  | bot => simp at h
  | top => simp at h
  | coe r => exact ⟨r, rfl⟩

/-- The logistic function. -/
def logistic (a : EReal) : EReal := Ideal.div 1 (1 + Ideal.exp (-a))

theorem logistic_coe (a : ℝ) : ∃ s : ℝ, logistic (a : EReal) = (s : EReal) := by
  have hp : (1 + Real.exp (-a)) ≠ 0 := by positivity
  refine ⟨1 * (1 / (1 + Real.exp (-a))), ?_⟩
  unfold logistic
  rw [← EReal.coe_neg, Ideal.exp_coe, ← EReal.coe_one, ← EReal.coe_add, Ideal.div_coe hp, EReal.coe_mul]

theorem logistic_top : logistic ⊤ = 1 := by
  unfold logistic
  rw [EReal.neg_top, Ideal.exp_bot, add_zero, ← EReal.coe_one, Ideal.div_coe one_ne_zero]
  norm_num

theorem logistic_bot : logistic ⊥ = 0 := by
  unfold logistic
  rw [EReal.neg_bot, Ideal.exp_top, ← EReal.coe_one, EReal.coe_add_top]
  simp [Ideal.div]

/-- The two ways of writing silu's slope. -/
theorem slope {t : EReal} (ht : IsNumber t) (a : EReal) :
    t * (logistic a * (1 + a * (1 - logistic a))) = t * logistic a + a * t * (logistic a * (1 - logistic a)) := by
  obtain ⟨t, rfl⟩ := ht
  have one_sub_one : (1 : EReal) - 1 = 0 := by
    rw [← EReal.coe_one, ← EReal.coe_sub, sub_self, EReal.coe_zero]
  induction a with
  | bot => rw [logistic_bot]; simp
  | top => rw [logistic_top, one_sub_one]; simp
  | coe a =>
    obtain ⟨s, hs⟩ := logistic_coe a
    rw [hs, ← EReal.coe_one]
    norm_cast
    ring

end Cert.SiluSlope

end
-- ==== Proof.MidValue.lean ====
module

public import proofs.«01_k».proof.Proof.MidRun
public import proofs.«01_k».proof.Proof.SiluSlope
public import proofs.«01_k».proof.Proof.Gen.MidReferenceIdeal
public import proofs.«01_k».proof.Proof.Gen.Pre_finite_mid
public import Idealize.ShloMosaic.Lib.ReduceAll
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.MidKernelIdeal.MidValue

open Cert.MidKernelIdeal Cert.MidKernelIdeal.Gen Cert.SiluSlope

/-! ## The reference's own terms -/

/-- A hidden product. -/
def prod (h : FVec Ideal Cert.MidReferenceIdeal.S2048x1024 .f32) (w : FVec Ideal Cert.MidReferenceIdeal.S1024x2816 .f32) : FVec Ideal Cert.MidReferenceIdeal.S2048x2816 .f32 :=
  Host.dotGeneral Cert.MidReferenceIdeal.dot_S2048x1024_S1024x2816_S2048x2816_1_0_0_1_n_n none h w

/-- Half the output's gradient. -/
def half (dx : FVec Ideal Cert.MidReferenceIdeal.S2048x1024 .f32) : FVec Ideal Cert.MidReferenceIdeal.S2048x1024 .f32 :=
  mulf (broadcastInDim Cert.MidReferenceIdeal.S2048x1024 ![] Cert.MidReferenceIdeal.Gen.bcast_S_S2048x1024 (constant Cert.MidReferenceIdeal.S_ .f32 0x3F000000#32)) dx

/-- The gradient of the gated hidden activations. -/
def gU (dx : FVec Ideal Cert.MidReferenceIdeal.S2048x1024 .f32) (wd : FVec Ideal Cert.MidReferenceIdeal.S2816x1024 .f32) : FVec Ideal Cert.MidReferenceIdeal.S2048x2816 .f32 :=
  Host.dotGeneral Cert.MidReferenceIdeal.dot_S2048x1024_S2816x1024_S2048x2816_1_1_0_0_n_n none (half dx) wd

/-- The logistic function of the gate. -/
def gate (a : FVec Ideal Cert.MidReferenceIdeal.S2048x2816 .f32) : FVec Ideal Cert.MidReferenceIdeal.S2048x2816 .f32 :=
  Host.divf (broadcastInDim Cert.MidReferenceIdeal.S2048x2816 ![] Cert.MidReferenceIdeal.Gen.bcast_S_S2048x2816 (constant Cert.MidReferenceIdeal.S_ .f32 0x3F800000#32)) (addf (broadcastInDim Cert.MidReferenceIdeal.S2048x2816 ![] Cert.MidReferenceIdeal.Gen.bcast_S_S2048x2816 (constant Cert.MidReferenceIdeal.S_ .f32 0x3F800000#32)) (Host.exp (Host.negf a)))

/-- The two hidden gradients over the hidden products, and the gated hidden activations. -/
def gA (a b u : FVec Ideal Cert.MidReferenceIdeal.S2048x2816 .f32) : FVec Ideal Cert.MidReferenceIdeal.S2048x2816 .f32 :=
  addf (mulf (mulf u b) (gate a)) (mulf (mulf a (mulf u b)) (mulf (gate a) (subf (broadcastInDim Cert.MidReferenceIdeal.S2048x2816 ![] Cert.MidReferenceIdeal.Gen.bcast_S_S2048x2816 (constant Cert.MidReferenceIdeal.S_ .f32 0x3F800000#32)) (gate a))))
def gB (a u : FVec Ideal Cert.MidReferenceIdeal.S2048x2816 .f32) : FVec Ideal Cert.MidReferenceIdeal.S2048x2816 .f32 :=
  mulf (mulf a (gate a)) u
def gated (a b : FVec Ideal Cert.MidReferenceIdeal.S2048x2816 .f32) : FVec Ideal Cert.MidReferenceIdeal.S2048x2816 .f32 :=
  mulf (mulf a (gate a)) b

/-- A hidden array with the shard of channels first. -/
def shardFirst (t : FVec Ideal Cert.MidReferenceIdeal.S2048x2816 .f32) : FVec Ideal Cert.MidReferenceIdeal.S4x2048x704 .bf16 :=
  truncf .bf16 (transpose Cert.MidReferenceIdeal.S4x2048x704 [1, 0, 2] (shapeCast _ t Cert.MidReferenceIdeal.Gen.shapeCasts_S2048x2816_S2048x4x704) Cert.MidReferenceIdeal.Gen.transposes_S2048x4x704_S4x2048x704_1_0_2) Cert.MidReferenceIdeal.Gen.bitsLt_bf16_f32

/-- The weight of the way down's gradient, and that of a weight of the way up. -/
def gDown (dx : FVec Ideal Cert.MidReferenceIdeal.S2048x1024 .f32) (u : FVec Ideal Cert.MidReferenceIdeal.S2048x2816 .f32) : FVec Ideal Cert.MidReferenceIdeal.S4x2x352x1024 .bf16 :=
  truncf .bf16 (shapeCast _ (transpose Cert.MidReferenceIdeal.S2816x1024 [1, 0] (Host.dotGeneral Cert.MidReferenceIdeal.dot_S2048x1024_S2048x2816_S1024x2816_0_0_1_1_n_n none (half dx) u) Cert.MidReferenceIdeal.Gen.transposes_S1024x2816_S2816x1024_1_0) Cert.MidReferenceIdeal.Gen.shapeCasts_S2816x1024_S4x2x352x1024) Cert.MidReferenceIdeal.Gen.bitsLt_bf16_f32
def gUp (h : FVec Ideal Cert.MidReferenceIdeal.S2048x1024 .f32) (g : FVec Ideal Cert.MidReferenceIdeal.S2048x2816 .f32) : FVec Ideal Cert.MidReferenceIdeal.S4x2x352x1024 .bf16 :=
  truncf .bf16 (shapeCast _ (transpose Cert.MidReferenceIdeal.S2816x1024 [1, 0] (transpose Cert.MidReferenceIdeal.S1024x2816 [1, 0] (Host.dotGeneral Cert.MidReferenceIdeal.dot_S2048x2816_S2048x1024_S2816x1024_0_0_1_1_n_n none g h) Cert.MidReferenceIdeal.Gen.transposes_S2816x1024_S1024x2816_1_0) Cert.MidReferenceIdeal.Gen.transposes_S1024x2816_S2816x1024_1_0) Cert.MidReferenceIdeal.Gen.shapeCasts_S2816x1024_S4x2x352x1024) Cert.MidReferenceIdeal.Gen.bitsLt_bf16_f32

variable (m : (ℓ : Loc nD τ sig) → Buf (Elt Ideal) ℓ)

/-- The gate's product, the other product, and the gradient of their gated product, over the arguments. -/
def refA (c : Dev nD) := prod (m ((c : Thread nD τ).loc main_arg0)) (m ((c : Thread nD τ).loc main_arg1))
def refB (c : Dev nD) := prod (m ((c : Thread nD τ).loc main_arg0)) (m ((c : Thread nD τ).loc main_arg2))
def refU (c : Dev nD) := gU (m ((c : Thread nD τ).loc main_arg4)) (m ((c : Thread nD τ).loc main_arg3))

theorem idx_val : ∀ t : Fin cfg0.N, win0_0.index t = ![t.val % 4, 0]
    ∧ win0_1.index t = ![0, 0]
    ∧ win0_2.index t = ![t.val / 4, t.val % 4, 0]
    ∧ win0_3.index t = ![t.val / 4, t.val % 4, 0]
    ∧ win0_4.index t = ![t.val / 4, 0, 0]
    ∧ win0_5.index t = ![t.val / 4, t.val % 4, 0]
    ∧ win0_6.index t = ![t.val / 4, t.val % 4, 0]
    ∧ win0_7.index t = ![t.val / 4, 0, 0, 0]
    ∧ win0_8.index t = ![t.val / 4, 0, 0, 0]
    ∧ win0_9.index t = ![t.val / 4, 0, 0, 0] :=
  (by decide +kernel : ∀ t : Fin grid0.N, _)

/-! ## One row tile -/

theorem pay13_apply (dx : Vec Ideal S512x1024 .f32) (wd : Vec Ideal S1x704x1024 .bf16) (y : S512x704.Idx) :
    k0_pay13 dx wd y = ∑ k : Fin 1024, (Ideal.ofBits .f32 0x3F000000#32 * dx (ix2 (y 0) k)) * wd (ix3 0 (y 1) k) := by
  pointwise [k0_pay13, k0_pay11]

theorem pay14_apply (a : Vec Ideal S1x512x704 .bf16) (y : S512x704.Idx) : k0_pay14 a y = a (ix3 0 (y 0) (y 1)) := by
  pointwise [k0_pay14]

theorem pay15_apply (a : Vec Ideal S1x512x704 .bf16) (y : S512x704.Idx) : k0_pay15 a y = a (ix3 0 (y 0) (y 1)) := by
  pointwise [k0_pay15]

theorem shardFirst_at (x : FVec Ideal Cert.MidReferenceIdeal.S2048x2816 .f32) (i : Cert.MidReferenceIdeal.S4x2048x704.Idx) :
    shardFirst x i = x (ix2 (i 1) ⟨(i 0).val * 704 + (i 2).val, by have := (i 0).isLt; have := (i 2).isLt; simp at *; omega⟩) := by
  pointwise [shardFirst]

theorem array_2 (c : Dev nD) : V m c main_v12 = shardFirst (refA m c) := by
  blk_simp [V]
  entry_read
  rfl

theorem array_3 (c : Dev nD) : V m c main_v16 = shardFirst (refB m c) := by
  blk_simp [V]
  entry_read
  rfl

theorem bits_half : Ideal.ofBits FTy.f32 0x3F000000#32 = ((1 / 2 : ℝ) : EReal) := by
  simp [Ideal.ofBits, Ideal.ieee, -EReal.coe_mul] <;> norm_num

theorem gate_at (a : FVec Ideal Cert.MidReferenceIdeal.S2048x2816 .f32) (j : Cert.MidReferenceIdeal.S2048x2816.Idx) :
    gate a j = logistic (a j) := by
  pointwise [gate]
  rfl

theorem gA_at (a b u : FVec Ideal Cert.MidReferenceIdeal.S2048x2816 .f32) (j : Cert.MidReferenceIdeal.S2048x2816.Idx) :
    gA a b u j = u j * b j * logistic (a j) + a j * (u j * b j) * (logistic (a j) * (1 - logistic (a j))) := by
  rw [← gate_at]
  pointwise [gA]

theorem gB_at (a u : FVec Ideal Cert.MidReferenceIdeal.S2048x2816 .f32) (j : Cert.MidReferenceIdeal.S2048x2816.Idx) :
    gB a u j = a j * logistic (a j) * u j := by
  rw [← gate_at]
  pointwise [gB]

theorem gated_at (a b : FVec Ideal Cert.MidReferenceIdeal.S2048x2816 .f32) (j : Cert.MidReferenceIdeal.S2048x2816.Idx) :
    gated a b j = a j * logistic (a j) * b j := by
  rw [← gate_at]
  pointwise [gated]

theorem pay16_apply (a : Vec Ideal S1x512x704 .bf16) (y : S512x704.Idx) : k0_pay16 a y = logistic (k0_pay14 a y) := by
  pointwise [k0_pay16]
  simp only [zero_sub]
  rfl

theorem pay17_apply (a : Vec Ideal S1x512x704 .bf16) (y : S512x704.Idx) : k0_pay17 a y = k0_pay14 a y * logistic (k0_pay14 a y) := by
  rw [← pay16_apply]
  pointwise [k0_pay17]

theorem pay18_apply (dx : Vec Ideal S512x1024 .f32) (wd : Vec Ideal S1x704x1024 .bf16) (a b : Vec Ideal S1x512x704 .bf16) (y : S512x704.Idx) :
    k0_pay18 dx wd a b y = k0_pay13 dx wd y * k0_pay15 b y
      * (logistic (k0_pay14 a y) * (1 + k0_pay14 a y * (1 - logistic (k0_pay14 a y)))) := by
  rw [← pay16_apply]
  pointwise [k0_pay18]

theorem pay19_apply (dx : Vec Ideal S512x1024 .f32) (wd : Vec Ideal S1x704x1024 .bf16) (a : Vec Ideal S1x512x704 .bf16) (y : S512x704.Idx) :
    k0_pay19 dx wd a y = k0_pay13 dx wd y * (k0_pay14 a y * logistic (k0_pay14 a y)) := by
  rw [← pay17_apply]
  pointwise [k0_pay19]

theorem pay6_apply (v w : FVec Ideal S512x704 .f32) (y : S512x704.Idx) : k0_pay6 v w y = w y * v y := by
  pointwise [k0_pay6]

theorem pay8_apply (u : Vec Ideal S2048x704 .bf16) (g : Vec Ideal S2048x1024 .bf16) (y : S1x2x352x1024.Idx) :
    k0_pay8 u g y = ∑ r : Fin 2048, u (ix2 r ⟨(y 1).val * 352 + (y 2).val, by have := (y 1).isLt; have := (y 2).isLt; simp at *; omega⟩) * g (ix2 r (y 3)) := by
  pointwise [k0_pay8]

theorem pay9_apply (h : Vec Ideal S2048x1024 .bf16) (g : Vec Ideal S2048x704 .bf16) (y : S1x2x352x1024.Idx) :
    k0_pay9 h g y = ∑ r : Fin 2048, g (ix2 r ⟨(y 1).val * 352 + (y 2).val, by have := (y 1).isLt; have := (y 2).isLt; simp at *; omega⟩) * h (ix2 r (y 3)) := by
  pointwise [k0_pay9, k0_pay7]

theorem pay10_apply (h : Vec Ideal S2048x1024 .bf16) (g : Vec Ideal S2048x704 .bf16) (y : S1x2x352x1024.Idx) :
    k0_pay10 h g y = ∑ r : Fin 2048, g (ix2 r ⟨(y 1).val * 352 + (y 2).val, by have := (y 1).isLt; have := (y 2).isLt; simp at *; omega⟩) * h (ix2 r (y 3)) := by
  pointwise [k0_pay10, k0_pay7]

/-- The channel of the hidden axis that an entry of a weight's gradient stands at. -/
def channel (i : Cert.MidReferenceIdeal.S4x2x352x1024.Idx) : Fin 2816 :=
  ⟨(i 0).val * 704 + (i 1).val * 352 + (i 2).val, by
    have := (i 0).isLt; have := (i 1).isLt; have := (i 2).isLt; simp at *; omega⟩

theorem gDown_at (dx : FVec Ideal Cert.MidReferenceIdeal.S2048x1024 .f32) (u : FVec Ideal Cert.MidReferenceIdeal.S2048x2816 .f32) (i : Cert.MidReferenceIdeal.S4x2x352x1024.Idx) :
    gDown dx u i = ∑ r : Fin 2048, half dx (ix2 r (i 3)) * u (ix2 r (channel i)) := by
  pointwise [gDown, channel]

theorem gUp_at (h : FVec Ideal Cert.MidReferenceIdeal.S2048x1024 .f32) (g : FVec Ideal Cert.MidReferenceIdeal.S2048x2816 .f32) (i : Cert.MidReferenceIdeal.S4x2x352x1024.Idx) :
    gUp h g i = ∑ r : Fin 2048, g (ix2 r (channel i)) * h (ix2 r (i 3)) := by
  pointwise [gUp, channel]

section Tile

variable (c : Dev nD) (t : Fin cfg0.N) (y : S512x704.Idx) (j : Cert.MidReferenceIdeal.S2048x2816.Idx)
  (h0 : (j 0 : ℕ) = t.val % 4 * 512 + y 0) (h1 : (j 1 : ℕ) = t.val / 4 * 704 + y 1)
include h0 h1

theorem tile_u : k0_pay13 (F := Ideal) (iblk m c 0 t) (iblk m c 4 t) y = refU m c j := by
  rw [pay13_apply]
  pointwise [refU, gU, half]
  refine Finset.sum_congr rfl fun k _ => ?_
  blk_point [iblk, V, idx_val t]

theorem tile_a : k0_pay14 (F := Ideal) (iblk m c 2 t) y = refA m c j := by
  rw [pay14_apply]
  show V m c main_v12 ((win0_2.blk t).view.emb (ix3 0 (y 0) (y 1))) = refA m c j
  rw [array_2, shardFirst_at]
  refine congrArg (refA m c) ?_
  blk_ext [idx_val t]

theorem tile_b : k0_pay15 (F := Ideal) (iblk m c 3 t) y = refB m c j := by
  rw [pay15_apply]
  show V m c main_v16 ((win0_3.blk t).view.emb (ix3 0 (y 0) (y 1))) = refB m c j
  rw [array_3, shardFirst_at]
  refine congrArg (refB m c) ?_
  blk_ext [idx_val t]

theorem tile_da (hn : IsNumber (refU m c j * refB m c j)) :
    daTile (F := Ideal) (iblk m c 0 t) (iblk m c 4 t) (iblk m c 2 t) (iblk m c 3 t) y = gA (refA m c) (refB m c) (refU m c) j := by
  unfold daTile
  rw [pay18_apply, tile_u m c t y j h0 h1, tile_a m c t y j h0 h1, tile_b m c t y j h0 h1, gA_at]
  exact slope hn _

theorem tile_db : dbTile (F := Ideal) (iblk m c 0 t) (iblk m c 4 t) (iblk m c 2 t) y = gB (refA m c) (refU m c) j := by
  unfold dbTile
  rw [pay19_apply, tile_u m c t y j h0 h1, tile_a m c t y j h0 h1, gB_at, mul_comm]

theorem tile_gated : uRows (F := Ideal) (iblk m c 2 t) (iblk m c 3 t) y = gated (refA m c) (refB m c) j := by
  unfold uRows
  rw [pay6_apply, pay17_apply, tile_a m c t y j h0 h1, tile_b m c t y j h0 h1, gated_at]

end Tile

/-! ## A shard's rows -/

theorem tile_pos (t : Fin cfg0.N) (q : Fin 4) : (tileOf t q).val % 4 = q.val ∧ (tileOf t q).val / 4 = t.val / 4 := by
  have hq := q.isLt
  constructor
  · show (4 * (t.val / 4) + q.val) % 4 = q.val
    omega
  · show (4 * (t.val / 4) + q.val) / 4 = t.val / 4
    omega

/-- The place in a whole hidden array of an entry of a shard's rows. -/
def inShard (t : Fin cfg0.N) (x : S2048x704.Idx) : Cert.MidReferenceIdeal.S2048x2816.Idx :=
  ix2 (x 0) ⟨t.val / 4 * 704 + (x 1).val, by have := point_lt t; have : (x 1).val < 704 := (x 1).isLt; omega⟩

theorem row_split (x : S2048x704.Idx) : (x 0).val = (x 0).val / 512 * 512 + (x 0).val % 512 := by omega

theorem rows_da (c : Dev nD) (t : Fin cfg0.N) (x : S2048x704.Idx) (hn : ∀ j, IsNumber (refU m c j * refB m c j)) :
    daAll m c t x = gA (refA m c) (refB m c) (refU m c) (inShard t x) := by
  obtain ⟨e1, e2⟩ := tile_pos t ⟨(x 0).val / 512, Nat.div_lt_of_lt_mul (x 0).isLt⟩
  unfold daAll stackWide daRows
  refine Eq.trans ?_ (tile_da m c (tileOf t ⟨(x 0).val / 512, Nat.div_lt_of_lt_mul (x 0).isLt⟩)
    (ix2 ⟨(x 0).val % 512, Nat.mod_lt _ (by decide)⟩ (x 1)) (inShard t x) ?_ ?_ (hn _))
  · pointwise [k0_pay4]
  · rw [e1]; exact row_split x
  · rw [e2]; rfl

theorem rows_db (c : Dev nD) (t : Fin cfg0.N) (x : S2048x704.Idx) :
    dbAll m c t x = gB (refA m c) (refU m c) (inShard t x) := by
  obtain ⟨e1, e2⟩ := tile_pos t ⟨(x 0).val / 512, Nat.div_lt_of_lt_mul (x 0).isLt⟩
  unfold dbAll stackWide dbRows
  refine Eq.trans ?_ (tile_db m c (tileOf t ⟨(x 0).val / 512, Nat.div_lt_of_lt_mul (x 0).isLt⟩)
    (ix2 ⟨(x 0).val % 512, Nat.mod_lt _ (by decide)⟩ (x 1)) (inShard t x) ?_ ?_)
  · pointwise [k0_pay5, k0_pay1]
  · rw [e1]; exact row_split x
  · rw [e2]; rfl

theorem rows_gated (c : Dev nD) (t : Fin cfg0.N) (x : S2048x704.Idx) :
    uAll m c t x = gated (refA m c) (refB m c) (inShard t x) := by
  obtain ⟨e1, e2⟩ := tile_pos t ⟨(x 0).val / 512, Nat.div_lt_of_lt_mul (x 0).isLt⟩
  unfold uAll stackWide
  refine tile_gated m c (tileOf t ⟨(x 0).val / 512, Nat.div_lt_of_lt_mul (x 0).isLt⟩)
    (ix2 ⟨(x 0).val % 512, Nat.mod_lt _ (by decide)⟩ (x 1)) (inShard t x) ?_ ?_
  · rw [e1]; exact row_split x
  · rw [e2]; rfl

theorem half_at (dx : FVec Ideal Cert.MidReferenceIdeal.S2048x1024 .f32) (i : Cert.MidReferenceIdeal.S2048x1024.Idx) :
    half dx i = Ideal.ofBits .f32 0x3F000000#32 * dx i := by
  pointwise [half]

theorem pay12_apply (dx : Vec Ideal S512x1024 .f32) (y : S512x1024.Idx) : k0_pay12 dx y = Ideal.ofBits .f32 0x3F000000#32 * dx y := by
  pointwise [k0_pay12, k0_pay11]

theorem rows_dy (c : Dev nD) (t : Fin cfg0.N) (x : S2048x1024.Idx) :
    dyAll m c t x = half (m ((c : Thread nD τ).loc main_arg4)) x := by
  obtain ⟨e1, e2⟩ := tile_pos t ⟨(x 0).val / 512, Nat.div_lt_of_lt_mul (x 0).isLt⟩
  have hr : (x 0).val = (x 0).val / 512 * 512 + (x 0).val % 512 := by omega
  unfold dyAll stackTall dyRows
  refine (pay12_apply _ _).trans ?_
  rw [half_at]
  generalize tileOf t ⟨(x 0).val / 512, Nat.div_lt_of_lt_mul (x 0).isLt⟩ = u at e1 e2 ⊢
  have e3 : u.val % 4 = (x 0).val / 512 := e1
  blk_point [iblk, V, idx_val u]

theorem whole_h (c : Dev nD) (t : Fin cfg0.N) (x : S2048x1024.Idx) :
    (show Vec Ideal S2048x1024 .bf16 from iblk m c 1 t) x = m ((c : Thread nD τ).loc main_arg0) x := by
  blk_point [iblk, V, idx_val t]

/-! ## What the precondition gives -/

theorem prod_at (h : FVec Ideal Cert.MidReferenceIdeal.S2048x1024 .f32) (w : FVec Ideal Cert.MidReferenceIdeal.S1024x2816 .f32) (j : Cert.MidReferenceIdeal.S2048x2816.Idx) :
    prod h w j = ∑ k : Fin 1024, h (ix2 (j 0) k) * w (ix2 k (j 1)) := by
  pointwise [prod]

theorem gU_at (dx : FVec Ideal Cert.MidReferenceIdeal.S2048x1024 .f32) (wd : FVec Ideal Cert.MidReferenceIdeal.S2816x1024 .f32) (j : Cert.MidReferenceIdeal.S2048x2816.Idx) :
    gU dx wd j = ∑ k : Fin 1024, Ideal.ofBits .f32 0x3F000000#32 * dx (ix2 (j 0) k) * wd (ix2 (j 1) k) := by
  pointwise [gU, half]

theorem bits_inf : Ideal.ofBits FTy.f32 0x7F800000#32 = ⊤ := by simp [Ideal.ofBits, Ideal.ieee]

/-- One array's test, "every entry is below infinity in absolute value", read back. -/
theorem numbers_of_test {s : Shape} {axes : List (Fin s.rank)} (x : FVec Ideal s .f32) (hb : Cert.Pre_finite_mid.S_.BroadcastsInDim s (![] : Fin 0 → Fin s.rank))
    (hr : s.ReducesTo axes Cert.Pre_finite_mid.S_) (hu : 0 < Cert.Pre_finite_mid.S_.numel) (j : Cert.Pre_finite_mid.S_.Idx)
    (e : Host.reduce IntOp.andi (cmpf .olt (Host.absf x) (broadcastInDim s ![] hb (constant Cert.Pre_finite_mid.S_ .f32 0x7F800000#32)))
      (constantI Cert.Pre_finite_mid.S_ 1 1#1) hr hu j = 1#1) (i : s.Idx) : IsNumber (x i) := by
  haveI : Subsingleton Cert.Pre_finite_mid.S_.Idx := ⟨fun a b => funext fun k => k.elim0⟩
  have h1 := Host.reduce_andi_all _ _ hr hu j e i
  have h2 : Ideal.cmp .olt (max (x i) (-(x i))) (Ideal.ofBits FTy.f32 0x7F800000#32) = 1 := h1
  rw [bits_inf] at h2
  exact isNumber_of_abs_lt ((Ideal.cmp_olt_eq_one _ _).1 h2)

theorem numbers (c : Dev nD)
    (h : Cert.Pre_finite_mid.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1) (j : Cert.MidReferenceIdeal.S2048x2816.Idx) :
    IsNumber (refU m c j * refB m c j) := by
  have e := congrFun h ix0
  obtain ⟨e, e4⟩ := IntOp.andi_eq_one.1 e
  obtain ⟨e, e3⟩ := IntOp.andi_eq_one.1 e
  obtain ⟨e, e2⟩ := IntOp.andi_eq_one.1 e
  obtain ⟨_, e0⟩ := IntOp.andi_eq_one.1 e
  have n0 := numbers_of_test _ _ _ _ _ e0
  have n2 := numbers_of_test _ _ _ _ _ e2
  have n3 := numbers_of_test _ _ _ _ _ e3
  have n4 := numbers_of_test _ _ _ _ _ e4
  refine IsNumber.mul ?_ ?_
  · unfold refU
    rw [gU_at]
    exact IsNumber.sum _ _ fun k => ((IsNumber.mul ⟨_, bits_half⟩ (n4 _)).mul (n3 _))
  · unfold refB
    rw [prod_at]
    exact IsNumber.sum _ _ fun k => (n0 _).mul (n2 _)

/-! ## The five results -/

theorem pay2_apply (v : FVec Ideal S512x704 .bf16) (y : S1x512x704.Idx) : k0_pay2 v y = v (ix2 (y 1) (y 2)) := by
  pointwise [k0_pay2]

theorem pay3_apply (v : FVec Ideal S512x704 .f32) (y : S1x512x704.Idx) : k0_pay3 v y = v (ix2 (y 1) (y 2)) := by
  pointwise [k0_pay3, k0_pay1]

/-- An entry of a shard's part of a weight's gradient, and where it stands in the whole. -/
theorem channel_in (t : Fin cfg0.N) (y : S1x2x352x1024.Idx) (i : Cert.MidReferenceIdeal.S4x2x352x1024.Idx)
    (h0 : (i 0 : ℕ) = t.val / 4) (h1 : (i 1 : ℕ) = y 1) (h2 : (i 2 : ℕ) = y 2) (r : Fin 2048) (k : Fin 704)
    (hk : k.val = (y 1).val * 352 + (y 2).val) : inShard t (ix2 r k) = ix2 r (channel i) := by
  refine congrArg (ix2 r) (Fin.ext ?_)
  show t.val / 4 * 704 + k.val = (i 0).val * 704 + (i 1).val * 352 + (i 2).val
  omega

section Shard

variable (c : Dev nD) (t : Fin cfg0.N) (y : S1x2x352x1024.Idx) (i : Cert.MidReferenceIdeal.S4x2x352x1024.Idx)
  (h0 : (i 0 : ℕ) = t.val / 4) (h1 : (i 1 : ℕ) = y 1) (h2 : (i 2 : ℕ) = y 2) (h3 : (i 3 : ℕ) = y 3)
include h0 h1 h2 h3

theorem shard_down : k0_pay8 (uAll m c t) (dyAll m c t) y
    = gDown (m ((c : Thread nD τ).loc main_arg4)) (gated (refA m c) (refB m c)) i := by
  have e3 : y 3 = i 3 := Fin.ext h3.symm
  rw [pay8_apply, gDown_at]
  refine Finset.sum_congr rfl fun r _ => ?_
  rw [rows_gated, rows_dy, channel_in t y i h0 h1 h2 r _ rfl, e3, mul_comm]

theorem shard_gate (hn : ∀ j, IsNumber (refU m c j * refB m c j)) : k0_pay9 (iblk m c 1 t) (daAll m c t) y
    = gUp (m ((c : Thread nD τ).loc main_arg0)) (gA (refA m c) (refB m c) (refU m c)) i := by
  have e3 : y 3 = i 3 := Fin.ext h3.symm
  rw [pay9_apply, gUp_at]
  refine Finset.sum_congr rfl fun r _ => ?_
  exact congrArg₂ (fun p q : EReal => p * q)
    ((rows_da m c t _ hn).trans (congrArg (gA (refA m c) (refB m c) (refU m c)) (channel_in t y i h0 h1 h2 r _ rfl)))
    ((whole_h m c t (ix2 r (y 3))).trans (congrArg (fun k => m ((c : Thread nD τ).loc main_arg0) (ix2 r k)) e3))

theorem shard_up : k0_pay10 (iblk m c 1 t) (dbAll m c t) y
    = gUp (m ((c : Thread nD τ).loc main_arg0)) (gB (refA m c) (refU m c)) i := by
  have e3 : y 3 = i 3 := Fin.ext h3.symm
  rw [pay10_apply, gUp_at]
  refine Finset.sum_congr rfl fun r _ => ?_
  exact congrArg₂ (fun p q : EReal => p * q)
    ((rows_db m c t _).trans (congrArg (gB (refA m c) (refU m c)) (channel_in t y i h0 h1 h2 r _ rfl)))
    ((whole_h m c t (ix2 r (y 3))).trans (congrArg (fun k => m ((c : Thread nD τ).loc main_arg0) (ix2 r k)) e3))

end Shard

theorem final_5 (c : Dev nD) (hn : ∀ j, IsNumber (refU m c j * refB m c j)) :
    (dats m 0 c).arrAt 5 (cfgs 0).N = shardFirst (gA (refA m c) (refB m c) (refU m c)) := by
  refine (dats m 0 c).arrAt_eq_of_covers 5 _ (by decide +kernel) fun t hf y => ?_
  blk_simp; rw [left5, pay2_apply, shardFirst_at]
  refine tile_da m c t (ix2 (y 1) (y 2)) _ ?_ ?_ (hn _)
  all_goals (blk_simp [idx_val t] <;> simp <;> omega)

theorem final_6 (c : Dev nD) :
    (dats m 0 c).arrAt 6 (cfgs 0).N = shardFirst (gB (refA m c) (refU m c)) := by
  refine (dats m 0 c).arrAt_eq_of_covers 6 _ (by decide +kernel) fun t hf y => ?_
  blk_simp; rw [left6, pay3_apply, shardFirst_at]
  refine tile_db m c t (ix2 (y 1) (y 2)) _ ?_ ?_
  all_goals (blk_simp [idx_val t] <;> simp <;> omega)

theorem final_7 (c : Dev nD) :
    (dats m 0 c).arrAt 7 (cfgs 0).N = gDown (m ((c : Thread nD τ).loc main_arg4)) (gated (refA m c) (refB m c)) := by
  refine (dats m 0 c).arrAt_eq_of_covers 7 _ (by decide +kernel) fun t hf y => ?_
  blk_simp; rw [left7]
  refine shard_down m c t y _ ?_ ?_ ?_ ?_
  all_goals (blk_simp [idx_val t] <;> simp <;> omega)

theorem final_8 (c : Dev nD) (hn : ∀ j, IsNumber (refU m c j * refB m c j)) :
    (dats m 0 c).arrAt 8 (cfgs 0).N = gUp (m ((c : Thread nD τ).loc main_arg0)) (gA (refA m c) (refB m c) (refU m c)) := by
  refine (dats m 0 c).arrAt_eq_of_covers 8 _ (by decide +kernel) fun t hf y => ?_
  blk_simp; rw [left8]
  refine shard_gate m c t y _ ?_ ?_ ?_ ?_ hn
  all_goals (blk_simp [idx_val t] <;> simp <;> omega)

theorem final_9 (c : Dev nD) :
    (dats m 0 c).arrAt 9 (cfgs 0).N = gUp (m ((c : Thread nD τ).loc main_arg0)) (gB (refA m c) (refU m c)) := by
  refine (dats m 0 c).arrAt_eq_of_covers 9 _ (by decide +kernel) fun t hf y => ?_
  blk_simp; rw [left9]
  refine shard_up m c t y _ ?_ ?_ ?_ ?_
  all_goals (blk_simp [idx_val t] <;> simp <;> omega)

end Cert.MidKernelIdeal.MidValue

end
-- ==== Proof.Update.lean ====
/- The optimiser's step on arrays of any shape, entry by entry: the two moments and the weights' change. -/
module

public import Idealize.ShloMosaic.Lib.Pipeline.ValueKit
public import Idealize.ShloMosaic.Lib.Claim

@[expose] public section

noncomputable section

open Idealize.ShloMosaic

namespace Cert.Update

variable {s : Shape}

/-- The new first moment. -/
def first (g m1 : FVec Ideal s .f32) : FVec Ideal s .f32 :=
  addf (mulf (broadcast s (Scalar.ofBits .f32 0x3F666666#32)) m1) (mulf (broadcast s (Scalar.ofBits .f32 0x3DCCCCCD#32)) g)

/-- The new second moment. -/
def second (g m2 : FVec Ideal s .f32) : FVec Ideal s .f32 :=
  addf (mulf (broadcast s (Scalar.ofBits .f32 0x3F7FBE77#32)) m2) (mulf (broadcast s (Scalar.ofBits .f32 0x3A83126F#32)) (mulf g g))

/-- The weights' change. -/
def change (w g m1 m2 : FVec Ideal s .f32) : FVec Ideal s .f32 :=
  mulf (broadcast s (Scalar.ofBits .f32 0xBA83126F#32)) (addf (Host.divf (Host.divf (first g m1) (broadcast s (Scalar.ofBits .f32 0x3F26BD02#32)))
    (addf (Host.sqrt (Host.divf (second g m2) (broadcast s (Scalar.ofBits .f32 0x3C231ACC#32)))) (broadcast s (Scalar.ofBits .f32 0x322BCC77#32))))
    (mulf (broadcast s (Scalar.ofBits .f32 0x3C23D70A#32)) w))

end Cert.Update

end
-- ==== Proof.SmallValue.lean ====
/- The optimiser's step on the packed small weights: what one block computes, and the arrays after the run. -/
module

public import proofs.«01_k».proof.Proof.Update
public import proofs.«01_k».proof.Proof.Gen.SmallKernelIdeal.Frame

set_option maxRecDepth 16384

@[expose] public section

noncomputable section

open Idealize.ShloMosaic Idealize.ShloMosaic.TcCoe Idealize.SL.Sem
open Idealize.ShloMosaic.Pipeline (Dat)

namespace Cert.SmallKernelIdeal.SmallValue

open Cert.SmallKernelIdeal Cert.SmallKernelIdeal.Gen Cert.Update

variable (m : (ℓ : Loc nD τ sig) → Buf (Elt Ideal) ℓ)

/-- Point `t` of the grid handles the rows of half `t` in every window. -/
theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient goes through as it is. -/
theorem final_4 (c : Dev nD) : (dats m 0 c).arrAt 4 (cfgs 0).N = m ((c : Thread nD τ).loc main_arg1) := by
  refine (dats m 0 c).arrAt_eq_of_covers 4 _ (by decide +kernel) fun t hf y => ?_
  blk_simp; rw [after0_4]; frame_out
  blk_point [iblk, V, idx_val t]

/-- The weights' change, entry by entry. -/
theorem final_5 (c : Dev nD) : (dats m 0 c).arrAt 5 (cfgs 0).N = change (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  pointwise [k0_pay3, k0_pay2, k0_pay1, change, first, second]
  blk_point [iblk, V, idx_val t]

/-- The first moment. -/
theorem final_6 (c : Dev nD) : (dats m 0 c).arrAt 6 (cfgs 0).N = first
    (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay1, first]
  blk_point [iblk, V, idx_val t]

/-- The second moment. -/
theorem final_7 (c : Dev nD) : (dats m 0 c).arrAt 7 (cfgs 0).N = second
    (m ((c : Thread nD τ).loc main_arg1)) (m ((c : Thread nD τ).loc main_arg3)) := by
  refine (dats m 0 c).arrAt_eq_of_covers 7 _ (by decide +kernel) fun t hf y => ?_
  blk_simp; rw [after0_7]; frame_out
  pointwise [k0_pay2, second]
  blk_point [iblk, V, idx_val t]

end Cert.SmallKernelIdeal.SmallValue

end
-- ==== Proof.HiddenValue.lean ====
/- The optimiser's two calls on one device's shard of a hidden-layer weight: layers 1 to 3 by the first, layer 0 by the second, in place. -/
module

public import proofs.«01_k».proof.Proof.Update
public import proofs.«01_k».proof.Proof.Gen.HiddenKernelIdeal.Frame
public import proofs.«01_k».proof.Proof.Gen.HiddenReferenceIdeal.Run
public import proofs.«01_k».proof.Proof.Gen.HiddenKernel

set_option maxRecDepth 16384

@[expose] public section

noncomputable section

open Idealize.ShloMosaic Idealize.ShloMosaic.TcCoe Idealize.SL.Sem
open Idealize.ShloMosaic.Pipeline (Dat)

namespace Cert.HiddenKernelIdeal.HiddenValue

open Cert.HiddenKernelIdeal Cert.HiddenKernelIdeal.Gen Cert.Update

variable (m : (ℓ : Loc nD τ sig) → Buf (Elt Ideal) ℓ) (ρ : Dev nD → PrngReg)

/-- The blocks of the first call: layer `t / 2 + 1`, half `t % 2`; its gradients' array starts at layer 1. -/
theorem upper_idx : ∀ t : Fin cfg0.N, win0_0.index t = ![t.val / 2 + 1, t.val % 2, 0]
    ∧ win0_1.index t = ![t.val / 2, t.val % 2, 0]
    ∧ win0_2.index t = ![t.val / 2 + 1, t.val % 2, 0]
    ∧ win0_3.index t = ![t.val / 2 + 1, t.val % 2, 0]
    ∧ win0_4.index t = ![t.val / 2 + 1, t.val % 2, 0]
    ∧ win0_5.index t = ![t.val / 2 + 1, t.val % 2, 0]
    ∧ win0_6.index t = ![t.val / 2 + 1, t.val % 2, 0]
    ∧ win0_7.index t = ![t.val / 2 + 1, t.val % 2, 0] :=
  (by decide +kernel : ∀ t : Fin grid0.N, _)

/-- The blocks of the second call: layer 0, half `t`. -/
theorem lower_idx : ∀ t : Fin cfg1.N, win1_0.index t = ![0, t.val, 0]
    ∧ win1_1.index t = ![0, t.val, 0]
    ∧ win1_2.index t = ![0, t.val, 0]
    ∧ win1_3.index t = ![0, t.val, 0]
    ∧ win1_4.index t = ![0, t.val, 0]
    ∧ win1_5.index t = ![0, t.val, 0]
    ∧ win1_6.index t = ![0, t.val, 0]
    ∧ win1_7.index t = ![0, t.val, 0] :=
  (by decide +kernel : ∀ t : Fin grid1.N, _)

/-- The gradients of layers 1 to 3, as the first call finds them. -/
theorem upper_gradient (c : Dev nD) : V1 m ρ c main_v0
    = extractStridedSlice S3x704x1024 ![1, 0, 0] (m ((c : Thread nD τ).loc main_arg1)) slices_S4x704x1024_S3x704x1024_1_0_0 := by
  show StableHlo.after hostOps0 (W0 m ρ c) (Proc.devRef .tc main_v0) = _
  after_results

/-- The gradients of layer 0, as the second call finds them. -/
theorem lower_gradient (c : Dev nD) : V3 m ρ c main_v2
    = extractStridedSlice S1x704x1024 ![0, 0, 0] (m ((c : Thread nD τ).loc main_arg1)) slices_S4x704x1024_S1x704x1024_0_0_0 := by
  rw [← W2_args m ρ c main_arg1 (by decide)]
  show StableHlo.after hostOps1 (W2 m ρ c) (Proc.devRef .tc main_v2) = _
  after_results

/-- The second call starts from what the first one leaves. -/
theorem handed (c : Dev nD) : V3 m ρ c main_v3_0 = (dat0 (V1 m ρ) c).arrAt 4 cfg0.N ∧ V3 m ρ c main_v3_1 = (dat0 (V1 m ρ) c).arrAt 5 cfg0.N
    ∧ V3 m ρ c main_v3_2 = (dat0 (V1 m ρ) c).arrAt 6 cfg0.N ∧ V3 m ρ c main_v3_3 = (dat0 (V1 m ρ) c).arrAt 7 cfg0.N := by
  refine ⟨Eq.trans ?_ (W2_arr m ρ c 4), Eq.trans ?_ (W2_arr m ρ c 5), Eq.trans ?_ (W2_arr m ρ c 6), Eq.trans ?_ (W2_arr m ρ c 7)⟩
  all_goals
    show StableHlo.after hostOps1 (W2 m ρ c) (Proc.devRef .tc _) = _
    after_results
    rfl

/-- The gradients are handed through: what the first call leaves. -/
theorem upper_4 (c : Dev nD) : (dat0 (V1 m ρ) c).arrAt 4 cfg0.N = fun i => if 1 ≤ (i 0 : ℕ) / 1 then m ((c : Thread nD τ).loc main_arg1) i else V1 m ρ c main_v1_0 i := by
  refine (dat0 (V1 m ρ) c).arrAt_eq_of_coversWhere 4 _ (fun β => 1 ≤ β (0 : Fin _)) (by decide +kernel) (fun t hf y => ?_) (fun j => Iff.rfl)
  blk_simp; rw [after0_4]; frame_out
  pointwise [k0_pay1]
  refine (congrFun (upper_gradient m ρ c) _).trans ?_
  pointwise
  blk_ext [upper_idx t]

/-- The gradients are handed through. -/
theorem final_4 (c : Dev nD) : (dat1 (V3 m ρ) c).arrAt 4 cfg1.N = m ((c : Thread nD τ).loc main_arg1) := by
  refine (dat1 (V3 m ρ) c).arrAt_eq_of_coversWhere_of_agree 4 _ (fun β => β (0 : Fin _) = 0) (by decide +kernel) (fun t hf y => ?_) fun j hj =>
    (congrFun (A_eq1 _ c 4) _).trans ((congrFun ((handed m ρ c).1) _).trans ((congrFun (upper_4 m ρ c) _).trans (if_pos (Nat.one_le_iff_ne_zero.mpr hj))))
  blk_simp; rw [after1_4]; unfold outsAt1; dsimp only; frame_out
  pointwise [k1_pay1]
  refine (congrFun (lower_gradient m ρ c) _).trans ?_
  pointwise
  blk_ext [lower_idx t]

/-- The weights' change: what the first call leaves. -/
theorem upper_5 (c : Dev nD) : (dat0 (V1 m ρ) c).arrAt 5 cfg0.N = fun i => if 1 ≤ (i 0 : ℕ) / 1 then change (m ((c : Thread nD τ).loc main_arg0)) (m ((c : Thread nD τ).loc main_arg1))
    (m ((c : Thread nD τ).loc main_arg2)) (m ((c : Thread nD τ).loc main_arg3)) i else V1 m ρ c main_v1_1 i := by
  refine (dat0 (V1 m ρ) c).arrAt_eq_of_coversWhere 5 _ (fun β => 1 ≤ β (0 : Fin _)) (by decide +kernel) (fun t hf y => ?_) (fun j => Iff.rfl)
  blk_simp; rw [after0_5]; frame_out
  pointwise [k0_pay4, k0_pay3, k0_pay2, k0_pay1, change, first, second]
  blk_point [iblk0, upper_idx t]
  refine (congrFun (upper_gradient m ρ c) _).trans ?_
  pointwise
  blk_ext [upper_idx t]

/-- The weights' change. -/
theorem final_5 (c : Dev nD) : (dat1 (V3 m ρ) c).arrAt 5 cfg1.N = change (m ((c : Thread nD τ).loc main_arg0)) (m ((c : Thread nD τ).loc main_arg1))
    (m ((c : Thread nD τ).loc main_arg2)) (m ((c : Thread nD τ).loc main_arg3)) := by
  refine (dat1 (V3 m ρ) c).arrAt_eq_of_coversWhere_of_agree 5 _ (fun β => β (0 : Fin _) = 0) (by decide +kernel) (fun t hf y => ?_) fun j hj =>
    (congrFun (A_eq1 _ c 5) _).trans ((congrFun ((handed m ρ c).2.1) _).trans ((congrFun (upper_5 m ρ c) _).trans (if_pos (Nat.one_le_iff_ne_zero.mpr hj))))
  blk_simp; rw [after1_5]; unfold outsAt1; dsimp only; frame_out
  pointwise [k1_pay4, k1_pay3, k1_pay2, k1_pay1, change, first, second]
  rw [← W3_args m ρ c main_arg0 (by decide), ← W3_args m ρ c main_arg2 (by decide), ← W3_args m ρ c main_arg3 (by decide)]
  blk_point [iblk1, lower_idx t]
  refine (congrFun (lower_gradient m ρ c) _).trans ?_
  pointwise
  blk_ext [lower_idx t]

/-- The first moment: what the first call leaves. -/
theorem upper_6 (c : Dev nD) : (dat0 (V1 m ρ) c).arrAt 6 cfg0.N = fun i => if 1 ≤ (i 0 : ℕ) / 1 then first (m ((c : Thread nD τ).loc main_arg1)) (m ((c : Thread nD τ).loc main_arg2)) i else V1 m ρ c main_v1_2 i := by
  refine (dat0 (V1 m ρ) c).arrAt_eq_of_coversWhere 6 _ (fun β => 1 ≤ β (0 : Fin _)) (by decide +kernel) (fun t hf y => ?_) (fun j => Iff.rfl)
  blk_simp; rw [after0_6]; frame_out
  pointwise [k0_pay2, k0_pay1, first]
  blk_point [iblk0, upper_idx t]
  refine (congrFun (upper_gradient m ρ c) _).trans ?_
  pointwise
  blk_ext [upper_idx t]

/-- The first moment. -/
theorem final_6 (c : Dev nD) : (dat1 (V3 m ρ) c).arrAt 6 cfg1.N = first (m ((c : Thread nD τ).loc main_arg1)) (m ((c : Thread nD τ).loc main_arg2)) := by
  refine (dat1 (V3 m ρ) c).arrAt_eq_of_coversWhere_of_agree 6 _ (fun β => β (0 : Fin _) = 0) (by decide +kernel) (fun t hf y => ?_) fun j hj =>
    (congrFun (A_eq1 _ c 6) _).trans ((congrFun ((handed m ρ c).2.2.1) _).trans ((congrFun (upper_6 m ρ c) _).trans (if_pos (Nat.one_le_iff_ne_zero.mpr hj))))
  blk_simp; rw [after1_6]; unfold outsAt1; dsimp only; frame_out
  pointwise [k1_pay2, k1_pay1, first]
  rw [← W3_args m ρ c main_arg2 (by decide)]
  blk_point [iblk1, lower_idx t]
  refine (congrFun (lower_gradient m ρ c) _).trans ?_
  pointwise
  blk_ext [lower_idx t]

/-- The second moment: what the first call leaves. -/
theorem upper_7 (c : Dev nD) : (dat0 (V1 m ρ) c).arrAt 7 cfg0.N = fun i => if 1 ≤ (i 0 : ℕ) / 1 then second (m ((c : Thread nD τ).loc main_arg1)) (m ((c : Thread nD τ).loc main_arg3)) i else V1 m ρ c main_v1_3 i := by
  refine (dat0 (V1 m ρ) c).arrAt_eq_of_coversWhere 7 _ (fun β => 1 ≤ β (0 : Fin _)) (by decide +kernel) (fun t hf y => ?_) (fun j => Iff.rfl)
  blk_simp; rw [after0_7]; frame_out
  pointwise [k0_pay3, k0_pay1, second]
  blk_point [iblk0, upper_idx t]
  refine (congrFun (upper_gradient m ρ c) _).trans ?_
  pointwise
  blk_ext [upper_idx t]

/-- The second moment. -/
theorem final_7 (c : Dev nD) : (dat1 (V3 m ρ) c).arrAt 7 cfg1.N = second (m ((c : Thread nD τ).loc main_arg1)) (m ((c : Thread nD τ).loc main_arg3)) := by
  refine (dat1 (V3 m ρ) c).arrAt_eq_of_coversWhere_of_agree 7 _ (fun β => β (0 : Fin _) = 0) (by decide +kernel) (fun t hf y => ?_) fun j hj =>
    (congrFun (A_eq1 _ c 7) _).trans ((congrFun ((handed m ρ c).2.2.2) _).trans ((congrFun (upper_7 m ρ c) _).trans (if_pos (Nat.one_le_iff_ne_zero.mpr hj))))
  blk_simp; rw [after1_7]; unfold outsAt1; dsimp only; frame_out
  pointwise [k1_pay3, k1_pay1, second]
  rw [← W3_args m ρ c main_arg3 (by decide)]
  blk_point [iblk1, lower_idx t]
  refine (congrFun (lower_gradient m ρ c) _).trans ?_
  pointwise
  blk_ext [lower_idx t]

section Run

open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- The two calls run, one after the other; every array in memory ends as the second call leaves it. -/
theorem ends : θ_run defs (onTc (τ := τ) (main (F := Ideal))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Run

/-- The four results after the run. -/
theorem results : θ_run defs (onTc (τ := τ) (main (F := Ideal))) ⟨m, fun _ => 0, ρ⟩ (fun r => ∀ c : Dev nD,
    r.2.mem ((c : Thread nD τ).loc main_v3_0) = m ((c : Thread nD τ).loc main_arg1)
    ∧ r.2.mem ((c : Thread nD τ).loc main_v3_1) = change (m ((c : Thread nD τ).loc main_arg0)) (m ((c : Thread nD τ).loc main_arg1)) (m ((c : Thread nD τ).loc main_arg2)) (m ((c : Thread nD τ).loc main_arg3))
    ∧ r.2.mem ((c : Thread nD τ).loc main_v3_2) = first (m ((c : Thread nD τ).loc main_arg1)) (m ((c : Thread nD τ).loc main_arg2))
    ∧ r.2.mem ((c : Thread nD τ).loc main_v3_3) = second (m ((c : Thread nD τ).loc main_arg1)) (m ((c : Thread nD τ).loc main_arg3))
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)) :=
  (θ_run defs _ _).mono (fun r h c => ⟨(h c _ (mem_uc main_v3_0 (by decide))).trans ((W4_arr m ρ c 4).trans (final_4 m ρ c)),
    (h c _ (mem_uc main_v3_1 (by decide))).trans ((W4_arr m ρ c 5).trans (final_5 m ρ c)),
    (h c _ (mem_uc main_v3_2 (by decide))).trans ((W4_arr m ρ c 6).trans (final_6 m ρ c)),
    (h c _ (mem_uc main_v3_3 (by decide))).trans ((W4_arr m ρ c 7).trans (final_7 m ρ c)),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩) (ends m ρ)

end Cert.HiddenKernelIdeal.HiddenValue

end
-- ==== Proof.InValue.lean ====
/- The optimiser's two calls on one device's shard of the input projection's weight: layers 1 to 3 by the first, layer 0 by the second, in place. -/
module

public import proofs.«01_k».proof.Proof.Update
public import proofs.«01_k».proof.Proof.Gen.InKernelIdeal.Frame
public import proofs.«01_k».proof.Proof.Gen.InReferenceIdeal.Run
public import proofs.«01_k».proof.Proof.Gen.InKernel

set_option maxRecDepth 16384

@[expose] public section

noncomputable section

open Idealize.ShloMosaic Idealize.ShloMosaic.TcCoe Idealize.SL.Sem
open Idealize.ShloMosaic.Pipeline (Dat)

namespace Cert.InKernelIdeal.InValue

open Cert.InKernelIdeal Cert.InKernelIdeal.Gen Cert.Update

variable (m : (ℓ : Loc nD τ sig) → Buf (Elt Ideal) ℓ) (ρ : Dev nD → PrngReg)

/-- The blocks of the first call: layer `t / 2 + 1`, half `t % 2`; its gradients' array starts at layer 1. -/
theorem upper_idx : ∀ t : Fin cfg0.N, win0_0.index t = ![t.val / 2 + 1, t.val % 2, 0]
    ∧ win0_1.index t = ![t.val / 2, t.val % 2, 0]
    ∧ win0_2.index t = ![t.val / 2 + 1, t.val % 2, 0]
    ∧ win0_3.index t = ![t.val / 2 + 1, t.val % 2, 0]
    ∧ win0_4.index t = ![t.val / 2 + 1, t.val % 2, 0]
    ∧ win0_5.index t = ![t.val / 2 + 1, t.val % 2, 0]
    ∧ win0_6.index t = ![t.val / 2 + 1, t.val % 2, 0]
    ∧ win0_7.index t = ![t.val / 2 + 1, t.val % 2, 0] :=
  (by decide +kernel : ∀ t : Fin grid0.N, _)

/-- The blocks of the second call: layer 0, half `t`. -/
theorem lower_idx : ∀ t : Fin cfg1.N, win1_0.index t = ![0, t.val, 0]
    ∧ win1_1.index t = ![0, t.val, 0]
    ∧ win1_2.index t = ![0, t.val, 0]
    ∧ win1_3.index t = ![0, t.val, 0]
    ∧ win1_4.index t = ![0, t.val, 0]
    ∧ win1_5.index t = ![0, t.val, 0]
    ∧ win1_6.index t = ![0, t.val, 0]
    ∧ win1_7.index t = ![0, t.val, 0] :=
  (by decide +kernel : ∀ t : Fin grid1.N, _)

/-- The gradients of layers 1 to 3, as the first call finds them. -/
theorem upper_gradient (c : Dev nD) : V1 m ρ c main_v0
    = extractStridedSlice S3x1024x640 ![1, 0, 0] (m ((c : Thread nD τ).loc main_arg1)) slices_S4x1024x640_S3x1024x640_1_0_0 := by
  show StableHlo.after hostOps0 (W0 m ρ c) (Proc.devRef .tc main_v0) = _
  after_results

/-- The gradients of layer 0, as the second call finds them. -/
theorem lower_gradient (c : Dev nD) : V3 m ρ c main_v2
    = extractStridedSlice S1x1024x640 ![0, 0, 0] (m ((c : Thread nD τ).loc main_arg1)) slices_S4x1024x640_S1x1024x640_0_0_0 := by
  rw [← W2_args m ρ c main_arg1 (by decide)]
  show StableHlo.after hostOps1 (W2 m ρ c) (Proc.devRef .tc main_v2) = _
  after_results

/-- The second call starts from what the first one leaves. -/
theorem handed (c : Dev nD) : V3 m ρ c main_v3_0 = (dat0 (V1 m ρ) c).arrAt 4 cfg0.N ∧ V3 m ρ c main_v3_1 = (dat0 (V1 m ρ) c).arrAt 5 cfg0.N
    ∧ V3 m ρ c main_v3_2 = (dat0 (V1 m ρ) c).arrAt 6 cfg0.N ∧ V3 m ρ c main_v3_3 = (dat0 (V1 m ρ) c).arrAt 7 cfg0.N := by
  refine ⟨Eq.trans ?_ (W2_arr m ρ c 4), Eq.trans ?_ (W2_arr m ρ c 5), Eq.trans ?_ (W2_arr m ρ c 6), Eq.trans ?_ (W2_arr m ρ c 7)⟩
  all_goals
    show StableHlo.after hostOps1 (W2 m ρ c) (Proc.devRef .tc _) = _
    after_results
    rfl

/-- The gradients are handed through: what the first call leaves. -/
theorem upper_4 (c : Dev nD) : (dat0 (V1 m ρ) c).arrAt 4 cfg0.N = fun i => if 1 ≤ (i 0 : ℕ) / 1 then m ((c : Thread nD τ).loc main_arg1) i else V1 m ρ c main_v1_0 i := by
  refine (dat0 (V1 m ρ) c).arrAt_eq_of_coversWhere 4 _ (fun β => 1 ≤ β (0 : Fin _)) (by decide +kernel) (fun t hf y => ?_) (fun j => Iff.rfl)
  blk_simp; rw [after0_4]; frame_out
  pointwise [k0_pay1]
  refine (congrFun (upper_gradient m ρ c) _).trans ?_
  pointwise
  blk_ext [upper_idx t]

/-- The gradients are handed through. -/
theorem final_4 (c : Dev nD) : (dat1 (V3 m ρ) c).arrAt 4 cfg1.N = m ((c : Thread nD τ).loc main_arg1) := by
  refine (dat1 (V3 m ρ) c).arrAt_eq_of_coversWhere_of_agree 4 _ (fun β => β (0 : Fin _) = 0) (by decide +kernel) (fun t hf y => ?_) fun j hj =>
    (congrFun (A_eq1 _ c 4) _).trans ((congrFun ((handed m ρ c).1) _).trans ((congrFun (upper_4 m ρ c) _).trans (if_pos (Nat.one_le_iff_ne_zero.mpr hj))))
  blk_simp; rw [after1_4]; unfold outsAt1; dsimp only; frame_out
  pointwise [k1_pay1]
  refine (congrFun (lower_gradient m ρ c) _).trans ?_
  pointwise
  blk_ext [lower_idx t]

/-- The weights' change: what the first call leaves. -/
theorem upper_5 (c : Dev nD) : (dat0 (V1 m ρ) c).arrAt 5 cfg0.N = fun i => if 1 ≤ (i 0 : ℕ) / 1 then change (m ((c : Thread nD τ).loc main_arg0)) (m ((c : Thread nD τ).loc main_arg1))
    (m ((c : Thread nD τ).loc main_arg2)) (m ((c : Thread nD τ).loc main_arg3)) i else V1 m ρ c main_v1_1 i := by
  refine (dat0 (V1 m ρ) c).arrAt_eq_of_coversWhere 5 _ (fun β => 1 ≤ β (0 : Fin _)) (by decide +kernel) (fun t hf y => ?_) (fun j => Iff.rfl)
  blk_simp; rw [after0_5]; frame_out
  pointwise [k0_pay4, k0_pay3, k0_pay2, k0_pay1, change, first, second]
  blk_point [iblk0, upper_idx t]
  refine (congrFun (upper_gradient m ρ c) _).trans ?_
  pointwise
  blk_ext [upper_idx t]

/-- The weights' change. -/
theorem final_5 (c : Dev nD) : (dat1 (V3 m ρ) c).arrAt 5 cfg1.N = change (m ((c : Thread nD τ).loc main_arg0)) (m ((c : Thread nD τ).loc main_arg1))
    (m ((c : Thread nD τ).loc main_arg2)) (m ((c : Thread nD τ).loc main_arg3)) := by
  refine (dat1 (V3 m ρ) c).arrAt_eq_of_coversWhere_of_agree 5 _ (fun β => β (0 : Fin _) = 0) (by decide +kernel) (fun t hf y => ?_) fun j hj =>
    (congrFun (A_eq1 _ c 5) _).trans ((congrFun ((handed m ρ c).2.1) _).trans ((congrFun (upper_5 m ρ c) _).trans (if_pos (Nat.one_le_iff_ne_zero.mpr hj))))
  blk_simp; rw [after1_5]; unfold outsAt1; dsimp only; frame_out
  pointwise [k1_pay4, k1_pay3, k1_pay2, k1_pay1, change, first, second]
  rw [← W3_args m ρ c main_arg0 (by decide), ← W3_args m ρ c main_arg2 (by decide), ← W3_args m ρ c main_arg3 (by decide)]
  blk_point [iblk1, lower_idx t]
  refine (congrFun (lower_gradient m ρ c) _).trans ?_
  pointwise
  blk_ext [lower_idx t]

/-- The first moment: what the first call leaves. -/
theorem upper_6 (c : Dev nD) : (dat0 (V1 m ρ) c).arrAt 6 cfg0.N = fun i => if 1 ≤ (i 0 : ℕ) / 1 then first (m ((c : Thread nD τ).loc main_arg1)) (m ((c : Thread nD τ).loc main_arg2)) i else V1 m ρ c main_v1_2 i := by
  refine (dat0 (V1 m ρ) c).arrAt_eq_of_coversWhere 6 _ (fun β => 1 ≤ β (0 : Fin _)) (by decide +kernel) (fun t hf y => ?_) (fun j => Iff.rfl)
  blk_simp; rw [after0_6]; frame_out
  pointwise [k0_pay2, k0_pay1, first]
  blk_point [iblk0, upper_idx t]
  refine (congrFun (upper_gradient m ρ c) _).trans ?_
  pointwise
  blk_ext [upper_idx t]

/-- The first moment. -/
theorem final_6 (c : Dev nD) : (dat1 (V3 m ρ) c).arrAt 6 cfg1.N = first (m ((c : Thread nD τ).loc main_arg1)) (m ((c : Thread nD τ).loc main_arg2)) := by
  refine (dat1 (V3 m ρ) c).arrAt_eq_of_coversWhere_of_agree 6 _ (fun β => β (0 : Fin _) = 0) (by decide +kernel) (fun t hf y => ?_) fun j hj =>
    (congrFun (A_eq1 _ c 6) _).trans ((congrFun ((handed m ρ c).2.2.1) _).trans ((congrFun (upper_6 m ρ c) _).trans (if_pos (Nat.one_le_iff_ne_zero.mpr hj))))
  blk_simp; rw [after1_6]; unfold outsAt1; dsimp only; frame_out
  pointwise [k1_pay2, k1_pay1, first]
  rw [← W3_args m ρ c main_arg2 (by decide)]
  blk_point [iblk1, lower_idx t]
  refine (congrFun (lower_gradient m ρ c) _).trans ?_
  pointwise
  blk_ext [lower_idx t]

/-- The second moment: what the first call leaves. -/
theorem upper_7 (c : Dev nD) : (dat0 (V1 m ρ) c).arrAt 7 cfg0.N = fun i => if 1 ≤ (i 0 : ℕ) / 1 then second (m ((c : Thread nD τ).loc main_arg1)) (m ((c : Thread nD τ).loc main_arg3)) i else V1 m ρ c main_v1_3 i := by
  refine (dat0 (V1 m ρ) c).arrAt_eq_of_coversWhere 7 _ (fun β => 1 ≤ β (0 : Fin _)) (by decide +kernel) (fun t hf y => ?_) (fun j => Iff.rfl)
  blk_simp; rw [after0_7]; frame_out
  pointwise [k0_pay3, k0_pay1, second]
  blk_point [iblk0, upper_idx t]
  refine (congrFun (upper_gradient m ρ c) _).trans ?_
  pointwise
  blk_ext [upper_idx t]

/-- The second moment. -/
theorem final_7 (c : Dev nD) : (dat1 (V3 m ρ) c).arrAt 7 cfg1.N = second (m ((c : Thread nD τ).loc main_arg1)) (m ((c : Thread nD τ).loc main_arg3)) := by
  refine (dat1 (V3 m ρ) c).arrAt_eq_of_coversWhere_of_agree 7 _ (fun β => β (0 : Fin _) = 0) (by decide +kernel) (fun t hf y => ?_) fun j hj =>
    (congrFun (A_eq1 _ c 7) _).trans ((congrFun ((handed m ρ c).2.2.2) _).trans ((congrFun (upper_7 m ρ c) _).trans (if_pos (Nat.one_le_iff_ne_zero.mpr hj))))
  blk_simp; rw [after1_7]; unfold outsAt1; dsimp only; frame_out
  pointwise [k1_pay3, k1_pay1, second]
  rw [← W3_args m ρ c main_arg3 (by decide)]
  blk_point [iblk1, lower_idx t]
  refine (congrFun (lower_gradient m ρ c) _).trans ?_
  pointwise
  blk_ext [lower_idx t]

section Run

open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- The two calls run, one after the other; every array in memory ends as the second call leaves it. -/
theorem ends : θ_run defs (onTc (τ := τ) (main (F := Ideal))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Run

/-- The four results after the run. -/
theorem results : θ_run defs (onTc (τ := τ) (main (F := Ideal))) ⟨m, fun _ => 0, ρ⟩ (fun r => ∀ c : Dev nD,
    r.2.mem ((c : Thread nD τ).loc main_v3_0) = m ((c : Thread nD τ).loc main_arg1)
    ∧ r.2.mem ((c : Thread nD τ).loc main_v3_1) = change (m ((c : Thread nD τ).loc main_arg0)) (m ((c : Thread nD τ).loc main_arg1)) (m ((c : Thread nD τ).loc main_arg2)) (m ((c : Thread nD τ).loc main_arg3))
    ∧ r.2.mem ((c : Thread nD τ).loc main_v3_2) = first (m ((c : Thread nD τ).loc main_arg1)) (m ((c : Thread nD τ).loc main_arg2))
    ∧ r.2.mem ((c : Thread nD τ).loc main_v3_3) = second (m ((c : Thread nD τ).loc main_arg1)) (m ((c : Thread nD τ).loc main_arg3))
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)) :=
  (θ_run defs _ _).mono (fun r h c => ⟨(h c _ (mem_uc main_v3_0 (by decide))).trans ((W4_arr m ρ c 4).trans (final_4 m ρ c)),
    (h c _ (mem_uc main_v3_1 (by decide))).trans ((W4_arr m ρ c 5).trans (final_5 m ρ c)),
    (h c _ (mem_uc main_v3_2 (by decide))).trans ((W4_arr m ρ c 6).trans (final_6 m ρ c)),
    (h c _ (mem_uc main_v3_3 (by decide))).trans ((W4_arr m ρ c 7).trans (final_7 m ρ c)),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩) (ends m ρ)

end Cert.InKernelIdeal.InValue

end
-- ==== Proof.OutValue.lean ====
/- The optimiser's two calls on one device's shard of the output projection's weight: layers 1 to 3 by the first, layer 0 by the second, in place. -/
module

public import proofs.«01_k».proof.Proof.Update
public import proofs.«01_k».proof.Proof.Gen.OutKernelIdeal.Frame
public import proofs.«01_k».proof.Proof.Gen.OutReferenceIdeal.Run
public import proofs.«01_k».proof.Proof.Gen.OutKernel

set_option maxRecDepth 16384

@[expose] public section

noncomputable section

open Idealize.ShloMosaic Idealize.ShloMosaic.TcCoe Idealize.SL.Sem
open Idealize.ShloMosaic.Pipeline (Dat)

namespace Cert.OutKernelIdeal.OutValue

open Cert.OutKernelIdeal Cert.OutKernelIdeal.Gen Cert.Update

variable (m : (ℓ : Loc nD τ sig) → Buf (Elt Ideal) ℓ) (ρ : Dev nD → PrngReg)

/-- The blocks of the first call: layer `t / 2 + 1`, half `t % 2`; its gradients' array starts at layer 1. -/
theorem upper_idx : ∀ t : Fin cfg0.N, win0_0.index t = ![t.val / 2 + 1, t.val % 2, 0]
    ∧ win0_1.index t = ![t.val / 2, t.val % 2, 0]
    ∧ win0_2.index t = ![t.val / 2 + 1, t.val % 2, 0]
    ∧ win0_3.index t = ![t.val / 2 + 1, t.val % 2, 0]
    ∧ win0_4.index t = ![t.val / 2 + 1, t.val % 2, 0]
    ∧ win0_5.index t = ![t.val / 2 + 1, t.val % 2, 0]
    ∧ win0_6.index t = ![t.val / 2 + 1, t.val % 2, 0]
    ∧ win0_7.index t = ![t.val / 2 + 1, t.val % 2, 0] :=
  (by decide +kernel : ∀ t : Fin grid0.N, _)

/-- The blocks of the second call: layer 0, half `t`. -/
theorem lower_idx : ∀ t : Fin cfg1.N, win1_0.index t = ![0, t.val, 0]
    ∧ win1_1.index t = ![0, t.val, 0]
    ∧ win1_2.index t = ![0, t.val, 0]
    ∧ win1_3.index t = ![0, t.val, 0]
    ∧ win1_4.index t = ![0, t.val, 0]
    ∧ win1_5.index t = ![0, t.val, 0]
    ∧ win1_6.index t = ![0, t.val, 0]
    ∧ win1_7.index t = ![0, t.val, 0] :=
  (by decide +kernel : ∀ t : Fin grid1.N, _)

/-- The gradients of layers 1 to 3, as the first call finds them. -/
theorem upper_gradient (c : Dev nD) : V1 m ρ c main_v0
    = extractStridedSlice S3x256x1024 ![1, 0, 0] (m ((c : Thread nD τ).loc main_arg1)) slices_S4x256x1024_S3x256x1024_1_0_0 := by
  show StableHlo.after hostOps0 (W0 m ρ c) (Proc.devRef .tc main_v0) = _
  after_results

/-- The gradients of layer 0, as the second call finds them. -/
theorem lower_gradient (c : Dev nD) : V3 m ρ c main_v2
    = extractStridedSlice S1x256x1024 ![0, 0, 0] (m ((c : Thread nD τ).loc main_arg1)) slices_S4x256x1024_S1x256x1024_0_0_0 := by
  rw [← W2_args m ρ c main_arg1 (by decide)]
  show StableHlo.after hostOps1 (W2 m ρ c) (Proc.devRef .tc main_v2) = _
  after_results

/-- The second call starts from what the first one leaves. -/
theorem handed (c : Dev nD) : V3 m ρ c main_v3_0 = (dat0 (V1 m ρ) c).arrAt 4 cfg0.N ∧ V3 m ρ c main_v3_1 = (dat0 (V1 m ρ) c).arrAt 5 cfg0.N
    ∧ V3 m ρ c main_v3_2 = (dat0 (V1 m ρ) c).arrAt 6 cfg0.N ∧ V3 m ρ c main_v3_3 = (dat0 (V1 m ρ) c).arrAt 7 cfg0.N := by
  refine ⟨Eq.trans ?_ (W2_arr m ρ c 4), Eq.trans ?_ (W2_arr m ρ c 5), Eq.trans ?_ (W2_arr m ρ c 6), Eq.trans ?_ (W2_arr m ρ c 7)⟩
  all_goals
    show StableHlo.after hostOps1 (W2 m ρ c) (Proc.devRef .tc _) = _
    after_results
    rfl

/-- The gradients are handed through: what the first call leaves. -/
theorem upper_4 (c : Dev nD) : (dat0 (V1 m ρ) c).arrAt 4 cfg0.N = fun i => if 1 ≤ (i 0 : ℕ) / 1 then m ((c : Thread nD τ).loc main_arg1) i else V1 m ρ c main_v1_0 i := by
  refine (dat0 (V1 m ρ) c).arrAt_eq_of_coversWhere 4 _ (fun β => 1 ≤ β (0 : Fin _)) (by decide +kernel) (fun t hf y => ?_) (fun j => Iff.rfl)
  blk_simp; rw [after0_4]; frame_out
  pointwise [k0_pay1]
  refine (congrFun (upper_gradient m ρ c) _).trans ?_
  pointwise
  blk_ext [upper_idx t]

/-- The gradients are handed through. -/
theorem final_4 (c : Dev nD) : (dat1 (V3 m ρ) c).arrAt 4 cfg1.N = m ((c : Thread nD τ).loc main_arg1) := by
  refine (dat1 (V3 m ρ) c).arrAt_eq_of_coversWhere_of_agree 4 _ (fun β => β (0 : Fin _) = 0) (by decide +kernel) (fun t hf y => ?_) fun j hj =>
    (congrFun (A_eq1 _ c 4) _).trans ((congrFun ((handed m ρ c).1) _).trans ((congrFun (upper_4 m ρ c) _).trans (if_pos (Nat.one_le_iff_ne_zero.mpr hj))))
  blk_simp; rw [after1_4]; unfold outsAt1; dsimp only; frame_out
  pointwise [k1_pay1]
  refine (congrFun (lower_gradient m ρ c) _).trans ?_
  pointwise
  blk_ext [lower_idx t]

/-- The weights' change: what the first call leaves. -/
theorem upper_5 (c : Dev nD) : (dat0 (V1 m ρ) c).arrAt 5 cfg0.N = fun i => if 1 ≤ (i 0 : ℕ) / 1 then change (m ((c : Thread nD τ).loc main_arg0)) (m ((c : Thread nD τ).loc main_arg1))
    (m ((c : Thread nD τ).loc main_arg2)) (m ((c : Thread nD τ).loc main_arg3)) i else V1 m ρ c main_v1_1 i := by
  refine (dat0 (V1 m ρ) c).arrAt_eq_of_coversWhere 5 _ (fun β => 1 ≤ β (0 : Fin _)) (by decide +kernel) (fun t hf y => ?_) (fun j => Iff.rfl)
  blk_simp; rw [after0_5]; frame_out
  pointwise [k0_pay4, k0_pay3, k0_pay2, k0_pay1, change, first, second]
  blk_point [iblk0, upper_idx t]
  refine (congrFun (upper_gradient m ρ c) _).trans ?_
  pointwise
  blk_ext [upper_idx t]

/-- The weights' change. -/
theorem final_5 (c : Dev nD) : (dat1 (V3 m ρ) c).arrAt 5 cfg1.N = change (m ((c : Thread nD τ).loc main_arg0)) (m ((c : Thread nD τ).loc main_arg1))
    (m ((c : Thread nD τ).loc main_arg2)) (m ((c : Thread nD τ).loc main_arg3)) := by
  refine (dat1 (V3 m ρ) c).arrAt_eq_of_coversWhere_of_agree 5 _ (fun β => β (0 : Fin _) = 0) (by decide +kernel) (fun t hf y => ?_) fun j hj =>
    (congrFun (A_eq1 _ c 5) _).trans ((congrFun ((handed m ρ c).2.1) _).trans ((congrFun (upper_5 m ρ c) _).trans (if_pos (Nat.one_le_iff_ne_zero.mpr hj))))
  blk_simp; rw [after1_5]; unfold outsAt1; dsimp only; frame_out
  pointwise [k1_pay4, k1_pay3, k1_pay2, k1_pay1, change, first, second]
  rw [← W3_args m ρ c main_arg0 (by decide), ← W3_args m ρ c main_arg2 (by decide), ← W3_args m ρ c main_arg3 (by decide)]
  blk_point [iblk1, lower_idx t]
  refine (congrFun (lower_gradient m ρ c) _).trans ?_
  pointwise
  blk_ext [lower_idx t]

/-- The first moment: what the first call leaves. -/
theorem upper_6 (c : Dev nD) : (dat0 (V1 m ρ) c).arrAt 6 cfg0.N = fun i => if 1 ≤ (i 0 : ℕ) / 1 then first (m ((c : Thread nD τ).loc main_arg1)) (m ((c : Thread nD τ).loc main_arg2)) i else V1 m ρ c main_v1_2 i := by
  refine (dat0 (V1 m ρ) c).arrAt_eq_of_coversWhere 6 _ (fun β => 1 ≤ β (0 : Fin _)) (by decide +kernel) (fun t hf y => ?_) (fun j => Iff.rfl)
  blk_simp; rw [after0_6]; frame_out
  pointwise [k0_pay2, k0_pay1, first]
  blk_point [iblk0, upper_idx t]
  refine (congrFun (upper_gradient m ρ c) _).trans ?_
  pointwise
  blk_ext [upper_idx t]

/-- The first moment. -/
theorem final_6 (c : Dev nD) : (dat1 (V3 m ρ) c).arrAt 6 cfg1.N = first (m ((c : Thread nD τ).loc main_arg1)) (m ((c : Thread nD τ).loc main_arg2)) := by
  refine (dat1 (V3 m ρ) c).arrAt_eq_of_coversWhere_of_agree 6 _ (fun β => β (0 : Fin _) = 0) (by decide +kernel) (fun t hf y => ?_) fun j hj =>
    (congrFun (A_eq1 _ c 6) _).trans ((congrFun ((handed m ρ c).2.2.1) _).trans ((congrFun (upper_6 m ρ c) _).trans (if_pos (Nat.one_le_iff_ne_zero.mpr hj))))
  blk_simp; rw [after1_6]; unfold outsAt1; dsimp only; frame_out
  pointwise [k1_pay2, k1_pay1, first]
  rw [← W3_args m ρ c main_arg2 (by decide)]
  blk_point [iblk1, lower_idx t]
  refine (congrFun (lower_gradient m ρ c) _).trans ?_
  pointwise
  blk_ext [lower_idx t]

/-- The second moment: what the first call leaves. -/
theorem upper_7 (c : Dev nD) : (dat0 (V1 m ρ) c).arrAt 7 cfg0.N = fun i => if 1 ≤ (i 0 : ℕ) / 1 then second (m ((c : Thread nD τ).loc main_arg1)) (m ((c : Thread nD τ).loc main_arg3)) i else V1 m ρ c main_v1_3 i := by
  refine (dat0 (V1 m ρ) c).arrAt_eq_of_coversWhere 7 _ (fun β => 1 ≤ β (0 : Fin _)) (by decide +kernel) (fun t hf y => ?_) (fun j => Iff.rfl)
  blk_simp; rw [after0_7]; frame_out
  pointwise [k0_pay3, k0_pay1, second]
  blk_point [iblk0, upper_idx t]
  refine (congrFun (upper_gradient m ρ c) _).trans ?_
  pointwise
  blk_ext [upper_idx t]

/-- The second moment. -/
theorem final_7 (c : Dev nD) : (dat1 (V3 m ρ) c).arrAt 7 cfg1.N = second (m ((c : Thread nD τ).loc main_arg1)) (m ((c : Thread nD τ).loc main_arg3)) := by
  refine (dat1 (V3 m ρ) c).arrAt_eq_of_coversWhere_of_agree 7 _ (fun β => β (0 : Fin _) = 0) (by decide +kernel) (fun t hf y => ?_) fun j hj =>
    (congrFun (A_eq1 _ c 7) _).trans ((congrFun ((handed m ρ c).2.2.2) _).trans ((congrFun (upper_7 m ρ c) _).trans (if_pos (Nat.one_le_iff_ne_zero.mpr hj))))
  blk_simp; rw [after1_7]; unfold outsAt1; dsimp only; frame_out
  pointwise [k1_pay3, k1_pay1, second]
  rw [← W3_args m ρ c main_arg3 (by decide)]
  blk_point [iblk1, lower_idx t]
  refine (congrFun (lower_gradient m ρ c) _).trans ?_
  pointwise
  blk_ext [lower_idx t]

section Run

open Idealize.SL Idealize.SL.RA Idealize.SL.BI Idealize.SL.BI.BIBase Idealize.SL.BI.Laws Idealize.SL.ProofMode
open scoped Idealize.SL.BI
open Idealize.ShloMosaic.Rounds

set_option backward.isDefEq.respectTransparency.types false in
/-- The two calls run, one after the other; every array in memory ends as the second call leaves it. -/
theorem ends : θ_run defs (onTc (τ := τ) (main (F := Ideal))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Run

/-- The four results after the run. -/
theorem results : θ_run defs (onTc (τ := τ) (main (F := Ideal))) ⟨m, fun _ => 0, ρ⟩ (fun r => ∀ c : Dev nD,
    r.2.mem ((c : Thread nD τ).loc main_v3_0) = m ((c : Thread nD τ).loc main_arg1)
    ∧ r.2.mem ((c : Thread nD τ).loc main_v3_1) = change (m ((c : Thread nD τ).loc main_arg0)) (m ((c : Thread nD τ).loc main_arg1)) (m ((c : Thread nD τ).loc main_arg2)) (m ((c : Thread nD τ).loc main_arg3))
    ∧ r.2.mem ((c : Thread nD τ).loc main_v3_2) = first (m ((c : Thread nD τ).loc main_arg1)) (m ((c : Thread nD τ).loc main_arg2))
    ∧ r.2.mem ((c : Thread nD τ).loc main_v3_3) = second (m ((c : Thread nD τ).loc main_arg1)) (m ((c : Thread nD τ).loc main_arg3))
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)) :=
  (θ_run defs _ _).mono (fun r h c => ⟨(h c _ (mem_uc main_v3_0 (by decide))).trans ((W4_arr m ρ c 4).trans (final_4 m ρ c)),
    (h c _ (mem_uc main_v3_1 (by decide))).trans ((W4_arr m ρ c 5).trans (final_5 m ρ c)),
    (h c _ (mem_uc main_v3_2 (by decide))).trans ((W4_arr m ρ c 6).trans (final_6 m ρ c)),
    (h c _ (mem_uc main_v3_3 (by decide))).trans ((W4_arr m ρ c 7).trans (final_7 m ρ c)),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c)⟩) (ends m ρ)

end Cert.OutKernelIdeal.OutValue

end
-- ==== Proof.IntoValue.lean ====
module

public import proofs.«01_k».proof.Proof.Gen.IntoKernelIdeal.Frame
public import proofs.«01_k».proof.Proof.Gen.IntoReferenceIdeal
public import Idealize.ShloMosaic.Lib.Pipeline.ValueKit
public import proofs.«01_k».proof.Proof.FwdValue
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.IntoKernelIdeal.IntoValue

open Cert.IntoKernelIdeal Cert.IntoKernelIdeal.Gen

variable (m : (ℓ : Loc nD τ sig) → Buf (Elt Ideal) ℓ)

open Cert.FwdKernelIdeal.FwdValue (hN)

/-- The projection of the normed activations. -/
def proj (x : FVec Ideal Cert.IntoReferenceIdeal.S2048x1024 .f32) (g : FVec Ideal Cert.IntoReferenceIdeal.S1024 .f32) (w : FVec Ideal Cert.IntoReferenceIdeal.S1024x2560 .f32) : FVec Ideal Cert.IntoReferenceIdeal.S2048x2560 .f32 :=
  Host.dotGeneral Cert.IntoReferenceIdeal.dot_S2048x1024_S1024x2560_S2048x2560_1_0_0_1_n_n none (hN x g) w

theorem idx_val : ∀ t : Fin cfg0.N, win0_0.index t = ![t.val, 0]
    ∧ win0_1.index t = ![0, 0]
    ∧ win0_2.index t = ![0, 0, 0]
    ∧ win0_3.index t = ![t.val, 0]
    ∧ win0_4.index t = ![t.val, 0] :=
  (by decide +kernel : ∀ t : Fin grid0.N, _)

/-- What the body computes of the normed activations is the reference's, row by row. -/
theorem norm_point (c : Dev nD) (t : Fin cfg0.N) (y : S512x1024.Idx) (j : Cert.IntoReferenceIdeal.S2048x1024.Idx)
    (h0 : (j 0 : ℕ) = t.val * 512 + y 0) (h1 : (j 1 : ℕ) = y 1) :
    k0_pay2 (iblk m c 0 t) (iblk m c 1 t) y = hN (m ((c : Thread nD τ).loc main_arg0)) (m ((c : Thread nD τ).loc main_arg1)) j := by
  pointwise [k0_pay2, hN]
  blk_point [iblk, V, idx_val t]

/-- A shard's block of the projection is the reference's. -/
theorem prod_point (c : Dev nD) (t : Fin cfg0.N) (s : Fin 4) (y : S512x640.Idx) (j : Cert.IntoReferenceIdeal.S2048x2560.Idx)
    (h0 : (j 0 : ℕ) = t.val * 512 + y 0) (h1 : (j 1 : ℕ) = s * 640 + y 1) :
    ∑ k : Fin 1024, k0_pay2 (F := Ideal) (iblk m c 0 t) (iblk m c 1 t) (ix2 (y 0) k) * (show Vec Ideal S4x1024x640 .bf16 from iblk m c 2 t) (ix3 s k (y 1))
      = proj (m ((c : Thread nD τ).loc main_arg0)) (m ((c : Thread nD τ).loc main_arg1)) (m ((c : Thread nD τ).loc main_arg2)) j := by
  pointwise [proj]
  refine Finset.sum_congr rfl fun k _ => ?_
  rw [norm_point m c t (ix2 (y 0) k) (ix2 (j 0) k) h0 rfl]
  blk_point [iblk, V, idx_val t]

theorem point_3 (c : Dev nD) (t : Fin cfg0.N) (y) :
    out0_3 (iblk m c 0 t) (iblk m c 1 t) (iblk m c 2 t) y = proj (m ((c : Thread nD τ).loc main_arg0)) (m ((c : Thread nD τ).loc main_arg1)) (m ((c : Thread nD τ).loc main_arg2)) (((cfg0.win 3).blk t).view.emb y) := by
  canon_tiles x h
  · open_payloads
    refine Eq.trans ?_ (prod_point m c t 3 x _ ?_ ?_)
    · pointwise [k0_pay2]
    all_goals (blk_simp [idx_val t] <;> simp <;> omega)
  · open_payloads
    refine Eq.trans ?_ (prod_point m c t 2 x _ ?_ ?_)
    · pointwise [k0_pay2]
    all_goals (blk_simp [idx_val t] <;> simp <;> omega)
  · open_payloads
    refine Eq.trans ?_ (prod_point m c t 1 x _ ?_ ?_)
    · pointwise [k0_pay2]
    all_goals (blk_simp [idx_val t] <;> simp <;> omega)
  · open_payloads
    refine Eq.trans ?_ (prod_point m c t 0 x _ ?_ ?_)
    · pointwise [k0_pay2]
    all_goals (blk_simp [idx_val t] <;> simp <;> omega)

theorem final_3 (c : Dev nD) : (dats m 0 c).arrAt 3 (cfgs 0).N = proj (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point_3 m c t y

theorem final_4 (c : Dev nD) : (dats m 0 c).arrAt 4 (cfgs 0).N = (truncf .bf16 (hN (m ((c : Thread nD τ).loc main_arg0)) (m ((c : Thread nD τ).loc main_arg1))) Cert.IntoReferenceIdeal.Gen.bitsLt_bf16_f32 : FVec Ideal Cert.IntoReferenceIdeal.S2048x1024 .bf16) := by
  refine (dats m 0 c).arrAt_eq_of_covers 4 _ (by decide +kernel) fun t hf y => ?_
  blk_simp; rw [after0_4]; frame_out
  exact norm_point m c t y _ (by blk_simp [idx_val t]) (by blk_simp [idx_val t] <;> simp)

end Cert.IntoKernelIdeal.IntoValue

end
-- ==== Proof.OntoValue.lean ====
module

public import proofs.«01_k».proof.Proof.Gen.OntoKernelIdeal.Frame
public import proofs.«01_k».proof.Proof.Gen.OntoReferenceIdeal
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.OntoKernelIdeal.OntoValue

open Cert.OntoKernelIdeal Cert.OntoKernelIdeal.Gen

variable (m : (ℓ : Loc nD τ sig) → Buf (Elt Ideal) ℓ)

/-- The residual with the projected channels added. -/
def onto (x mixed : FVec Ideal Cert.OntoReferenceIdeal.S2048x1024 .f32) (w : FVec Ideal Cert.OntoReferenceIdeal.S1024x1024 .f32) : FVec Ideal Cert.OntoReferenceIdeal.S2048x1024 .f32 :=
  addf x (Host.dotGeneral Cert.OntoReferenceIdeal.dot_S2048x1024_S1024x1024_S2048x1024_1_0_0_1_n_n none mixed w)

theorem idx_val : ∀ t : Fin cfg0.N, win0_0.index t = ![t.val, 0]
    ∧ win0_1.index t = ![t.val, 0]
    ∧ win0_2.index t = ![0, 0, 0]
    ∧ win0_3.index t = ![t.val, 0] :=
  (by decide +kernel : ∀ t : Fin grid0.N, _)

theorem point (c : Dev nD) (t : Fin cfg0.N) (y : S512x1024.Idx) (j : Cert.OntoReferenceIdeal.S2048x1024.Idx)
    (h0 : (j 0 : ℕ) = t.val * 512 + y 0) (h1 : (j 1 : ℕ) = y 1) :
    k0_pay1 (iblk m c 0 t) (iblk m c 1 t) (iblk m c 2 t) y = onto (m ((c : Thread nD τ).loc main_arg0)) (m ((c : Thread nD τ).loc main_arg1)) (m ((c : Thread nD τ).loc main_arg2)) j := by
  pointwise [k0_pay1, onto]
  refine congr (congrArg HAdd.hAdd ?_) (Finset.sum_congr rfl fun k _ => ?_)
  · blk_point [iblk, V, idx_val t]
  · blk_point [iblk, V, idx_val t]

theorem final_3 (c : Dev nD) : (dats m 0 c).arrAt 3 (cfgs 0).N = onto (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y _ (by blk_simp [idx_val t]) (by blk_simp [idx_val t] <;> simp)

end Cert.OntoKernelIdeal.OntoValue

end
-- ==== Proof.MixedValue.lean ====
module

public import proofs.«01_k».proof.Proof.Gen.MixedKernelIdeal.Frame
public import proofs.«01_k».proof.Proof.Gen.MixedReferenceIdeal
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.MixedKernelIdeal.MixedValue

open Cert.MixedKernelIdeal Cert.MixedKernelIdeal.Gen

variable (m : (ℓ : Loc nD τ sig) → Buf (Elt Ideal) ℓ)

/-- The gradient of the mixed channels. -/
def gMixed (dx : FVec Ideal Cert.MixedReferenceIdeal.S2048x1024 .f32) (w : FVec Ideal Cert.MixedReferenceIdeal.S1024x1024 .f32) : FVec Ideal Cert.MixedReferenceIdeal.S2048x1024 .f32 :=
  Host.dotGeneral Cert.MixedReferenceIdeal.dot_S2048x1024_S1024x1024_S2048x1024_1_1_0_0_n_n none dx w

theorem idx_val : ∀ t : Fin cfg0.N, win0_0.index t = ![t.val, 0]
    ∧ win0_1.index t = ![0, 0, 0]
    ∧ win0_2.index t = ![t.val, 0] :=
  (by decide +kernel : ∀ t : Fin grid0.N, _)

theorem point (c : Dev nD) (t : Fin cfg0.N) (y : S512x1024.Idx) (j : Cert.MixedReferenceIdeal.S2048x1024.Idx)
    (h0 : (j 0 : ℕ) = t.val * 512 + y 0) (h1 : (j 1 : ℕ) = y 1) :
    k0_pay1 (iblk m c 0 t) (iblk m c 1 t) y = gMixed (m ((c : Thread nD τ).loc main_arg0)) (m ((c : Thread nD τ).loc main_arg1)) j := by
  pointwise [k0_pay1, gMixed]
  refine Finset.sum_congr rfl fun k _ => ?_
  blk_point [iblk, V, idx_val t]

theorem final_2 (c : Dev nD) : (dats m 0 c).arrAt 2 (cfgs 0).N = gMixed (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y _ (by blk_simp [idx_val t]) (by blk_simp [idx_val t] <;> simp)

end Cert.MixedKernelIdeal.MixedValue

end
-- ==== Proof.BackValue.lean ====
module

public import proofs.«01_k».proof.Proof.Gen.BackKernelIdeal.Frame
public import proofs.«01_k».proof.Proof.Gen.BackReferenceIdeal
public import Idealize.ShloMosaic.Lib.Pipeline.ValueKit
public import proofs.«01_k».proof.Proof.DxValue
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.BackKernelIdeal.BackValue

open Cert.BackKernelIdeal Cert.BackKernelIdeal.Gen

variable (m : (ℓ : Loc nD τ sig) → Buf (Elt Ideal) ℓ)

open Cert.DxKernelIdeal.DxValue (msq msq_pos gGain gMean gGained gIn)

/-- The gradient with respect to the normed activations, before the gain. -/
def gH (d : FVec Ideal Cert.BackReferenceIdeal.S2048x2560 .f32) (w : FVec Ideal Cert.BackReferenceIdeal.S1024x2560 .f32) : FVec Ideal Cert.BackReferenceIdeal.S2048x1024 .f32 :=
  Host.dotGeneral Cert.BackReferenceIdeal.dot_S2048x2560_S1024x2560_S2048x1024_1_1_0_0_n_n none d w

theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0, 0]
    ∧ win0_5.index t = ![t.val, 0]
    ∧ win0_6.index t = ![0, 0] :=
  (by decide +kernel : ∀ t : Fin grid0.N, _)

/-- The gradient of the normed activations as the body adds it up, shard by shard. -/
def accB (d : Vec Ideal S512x2560 .bf16) (w : Vec Ideal S4x1024x640 .bf16) : FVec Ideal S512x1024 .f32 :=
  k0_pay6 (View.ld d (Rect.unit ![0, 0] ![512, 640] inb_S512x2560_S512x640_0_0)) (View.ld w (Rect.unit ![0, 0, 0] ![1, 1024, 640] inb_S4x1024x640_S1x1024x640_0_0_0))
    (View.ld d (Rect.unit ![0, 640] ![512, 640] inb_S512x2560_S512x640_0_640)) (View.ld w (Rect.unit ![1, 0, 0] ![1, 1024, 640] inb_S4x1024x640_S1x1024x640_1_0_0))
    (View.ld d (Rect.unit ![0, 1280] ![512, 640] inb_S512x2560_S512x640_0_1280)) (View.ld w (Rect.unit ![2, 0, 0] ![1, 1024, 640] inb_S4x1024x640_S1x1024x640_2_0_0))
    (View.ld d (Rect.unit ![0, 1920] ![512, 640] inb_S512x2560_S512x640_0_1920)) (View.ld w (Rect.unit ![3, 0, 0] ![1, 1024, 640] inb_S4x1024x640_S1x1024x640_3_0_0))

/-- What the body adds up is the reference's gradient, block by block. -/
theorem acc_point (c : Dev nD) (t : Fin cfg0.N) (y : S512x1024.Idx) (j : Cert.BackReferenceIdeal.S2048x1024.Idx)
    (h0 : (j 0 : ℕ) = t.val * 512 + y 0) (h1 : (j 1 : ℕ) = y 1) :
    (accB (iblk m c 3 t) (iblk m c 4 t)) y = gH (m ((c : Thread nD τ).loc main_arg3)) (m ((c : Thread nD τ).loc main_arg4)) j := by
  pointwise [accB, k0_pay6, gH]
  rw [Fin.sum_univ_tiles 4 640 rfl, Fin.sum_univ_four]
  refine congr (congrArg HAdd.hAdd (congr (congrArg HAdd.hAdd (congr (congrArg HAdd.hAdd ?_) ?_)) ?_)) ?_
  all_goals
    refine Finset.sum_congr rfl fun k _ => ?_
    blk_point [iblk, V, idx_val t]

/-- A row's inverse root, in the body and in the reference. -/
theorem root_point (c : Dev nD) (t : Fin cfg0.N) (y : S512x1.Idx) (j : Cert.BackReferenceIdeal.S2048x1.Idx)
    (h0 : (j 0 : ℕ) = t.val * 512 + y 0) :
    k0_pay1 (k0_pay7 (iblk m c 1 t)) y = Ideal.rsqrt (msq (m ((c : Thread nD τ).loc main_arg1)) j) := by
  pointwise [k0_pay1, k0_pay7, msq]
  blk_point [iblk, V, idx_val t]

/-- A row's input, in the body and in the reference. -/
theorem x_point (c : Dev nD) (t : Fin cfg0.N) (y : S512x1024.Idx) (j : Cert.BackReferenceIdeal.S2048x1024.Idx)
    (h0 : (j 0 : ℕ) = t.val * 512 + y 0) (h1 : (j 1 : ℕ) = y 1) :
    (iblk m c 1 t : Vec Ideal S512x1024 .f32) y = ((m ((c : Thread nD τ).loc main_arg1)) : FVec Ideal Cert.BackReferenceIdeal.S2048x1024 .f32) j := by
  blk_point [iblk, V, idx_val t]

theorem dx_point (c : Dev nD) (t : Fin cfg0.N) (y : S512x1024.Idx) (j : Cert.BackReferenceIdeal.S2048x1024.Idx)
    (h0 : (j 0 : ℕ) = t.val * 512 + y 0) (h1 : (j 1 : ℕ) = y 1) :
    (iblk m c 0 t : Vec Ideal S512x1024 .f32) y = ((m ((c : Thread nD τ).loc main_arg0)) : FVec Ideal Cert.BackReferenceIdeal.S2048x1024 .f32) j := by
  blk_point [iblk, V, idx_val t]

theorem g_point (c : Dev nD) (t : Fin cfg0.N) (k : Fin 1024) :
    (iblk m c 2 t : Vec Ideal S1x1024 .f32) (ix2 0 k) = ((m ((c : Thread nD τ).loc main_arg2)) : FVec Ideal Cert.BackReferenceIdeal.S1024 .f32) (ix1 k) := by
  blk_point [iblk, V, idx_val t]

/-- The input's gradient at a place of the block. -/
theorem in_point (c : Dev nD) (t : Fin cfg0.N) (y : S512x1024.Idx) (j : Cert.BackReferenceIdeal.S2048x1024.Idx)
    (h0 : (j 0 : ℕ) = t.val * 512 + y 0) (h1 : (j 1 : ℕ) = y 1) :
    k0_pay3 (accB (iblk m c 3 t) (iblk m c 4 t)) (iblk m c 1 t) (k0_pay7 (iblk m c 1 t)) (iblk m c 2 t) (iblk m c 0 t) y
      = gIn (m ((c : Thread nD τ).loc main_arg0)) (m ((c : Thread nD τ).loc main_arg1)) (m ((c : Thread nD τ).loc main_arg2)) (gH (m ((c : Thread nD τ).loc main_arg3)) (m ((c : Thread nD τ).loc main_arg4))) j := by
  have e1 : (j 1 : Fin 1024) = y 1 := Fin.ext h1
  pointwise [k0_pay2, k0_pay3, gIn, gGained, gMean]
  rw [acc_point m c t y j h0 h1, x_point m c t y j h0 h1, dx_point m c t y j h0 h1, root_point m c t (ix2 (y 0) 0) (ix2 (j 0) 0) h0,
    g_point m c t (y 1), ← e1]
  simp only [fun x => acc_point m c t (ix2 (y 0) x) (ix2 (j 0) x) h0 rfl, fun x => x_point m c t (ix2 (y 0) x) (ix2 (j 0) x) h0 rfl,
    fun x => g_point m c t x, Finset.univ_unique, Finset.sum_singleton]
  exact Cert.NormGrad.norm_grad _ (msq_pos _ (ix2 (j 0) 0)) _ _ _ (fun k => _) (fun k => _)

theorem final_5 (c : Dev nD) : (dats m 0 c).arrAt 5 (cfgs 0).N = gIn (m ((c : Thread nD τ).loc main_arg0)) (m ((c : Thread nD τ).loc main_arg1)) (m ((c : Thread nD τ).loc main_arg2)) (gH (m ((c : Thread nD τ).loc main_arg3)) (m ((c : Thread nD τ).loc main_arg4))) := by
  refine (dats m 0 c).arrAt_eq_of_covers 5 _ (by decide +kernel) fun t hf y => ?_
  blk_simp; rw [after0_5]
  have hN : t.val < 4 := lt_of_lt_of_eq t.isLt (show cfg0.N = 4 from N_0)
  by_cases h : t.val % 4 = 0
  · rw [outsAt0_A m c t h (by omega)]; frame_out
    refine in_point m c t y _ ?_ ?_
    all_goals (blk_simp [idx_val t])
  · rw [outsAt0_B m c t h (by omega)]; frame_out
    refine in_point m c t y _ ?_ ?_
    all_goals (blk_simp [idx_val t])

/-- A tile's part of the gain's gradient. -/
def gainPart (c : Dev nD) (t : Fin cfg0.N) : FVec Ideal S1x1024 .f32 :=
  k0_pay4 (accB (iblk m c 3 t) (iblk m c 4 t)) (iblk m c 1 t) (k0_pay7 (iblk m c 1 t))

theorem pay4_apply (h x : FVec Ideal S512x1024 .f32) (r : FVec Ideal S512x1 .f32) (y : S1x1024.Idx) :
    k0_pay4 h x r y = ∑ i : Fin 512, h (ix2 i (y 1)) * (x (ix2 i (y 1)) * k0_pay1 r (ix2 i 0)) := by
  pointwise [k0_pay2, k0_pay4]

theorem gain_eq (c : Dev nD) (y : S1x1024.Idx) :
    ∑ t : Fin cfg0.N, gainPart m c t y = gGain (m ((c : Thread nD τ).loc main_arg1)) (gH (m ((c : Thread nD τ).loc main_arg3)) (m ((c : Thread nD τ).loc main_arg4))) y := by
  simp only [gainPart, pay4_apply]
  pointwise [gGain]
  simp only [Finset.univ_unique, Finset.sum_singleton]
  refine Fin.sum_mul_add_congr fun t r hl => ?_
  rw [acc_point m c t (ix2 r (y 1)) (ix2 ⟨t.val * 512 + r.val, hl⟩ (y 1)) rfl rfl, x_point m c t (ix2 r (y 1)) (ix2 ⟨t.val * 512 + r.val, hl⟩ (y 1)) rfl rfl,
    root_point m c t (ix2 r 0) (ix2 ⟨t.val * 512 + r.val, hl⟩ 0) rfl]
  exact mul_comm _ _

theorem final_6 (c : Dev nD) : (dats m 0 c).arrAt 6 (cfgs 0).N = gGain (m ((c : Thread nD τ).loc main_arg1)) (gH (m ((c : Thread nD τ).loc main_arg3)) (m ((c : Thread nD τ).loc main_arg4))) := by
  refine (dats m 0 c).arrAt_eq_of_after_last 6 t0_3 (by decide +kernel) _ fun j => ?_
  have hN : ∀ t : Fin cfg0.N, t.val < 4 := fun t => lt_of_lt_of_eq t.isLt (show cfg0.N = 4 from N_0)
  blk_simp
  rw [after0_6, Pipeline.eq_sum_fin_of_reset_step_apply_last (fun n h => (outsAt0 m c n h).2) 4 (fun _ => 0) (fun t => gainPart m c t)
    (fun t h j => by
      have := hN t
      rw [outsAt0_A m c t h (by omega)]; frame_out; exact (zero_add _).symm)
    (fun t h j => by
      have := hN t
      rw [outsAt0_B m c t h (by omega)]; frame_out; pointwise [k0_pay5, gainPart]; rfl)
    (le_of_eq N_0) t0_3 rfl j, zero_add]
  exact gain_eq m c _

end Cert.BackKernelIdeal.BackValue

end
-- ==== Proof.HeadValue.lean ====
module

public import proofs.«01_k».proof.Proof.Gen.HeadKernelIdeal.Frame
public import proofs.«01_k».proof.Proof.Gen.HeadReferenceIdeal
public import Idealize.ShloMosaic.Lib.Pipeline.ValueKit
public import proofs.«01_k».proof.Proof.DxValue
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.HeadKernelIdeal.HeadValue

open Cert.HeadKernelIdeal Cert.HeadKernelIdeal.Gen

variable (m : (ℓ : Loc nD τ sig) → Buf (Elt Ideal) ℓ)

open Cert.DxKernelIdeal.DxValue (msq msq_pos gGain gMean gGained)

/-! ## The reference's own terms -/

/-- The normed and gained activations less the target. -/
def err (x : FVec Ideal Cert.HeadReferenceIdeal.S2048x1024 .f32) (g : FVec Ideal Cert.HeadReferenceIdeal.S1024 .f32) (y : FVec Ideal Cert.HeadReferenceIdeal.S2048x1024 .f32) : FVec Ideal Cert.HeadReferenceIdeal.S2048x1024 .f32 :=
  subf (gGained g (mulf x (broadcastInDim Cert.HeadReferenceIdeal.S2048x1024 ![0, 1] Cert.HeadReferenceIdeal.Gen.bcast_S2048x1_S2048x1024_0_1 (Host.rsqrt (msq x))))) y

/-- The loss's gradient with respect to the normed and gained activations. -/
def gErr (e : FVec Ideal Cert.HeadReferenceIdeal.S2048x1024 .f32) : FVec Ideal Cert.HeadReferenceIdeal.S2048x1024 .f32 :=
  mulf (broadcastInDim Cert.HeadReferenceIdeal.S2048x1024 ![0] Cert.HeadReferenceIdeal.Gen.bcast_S2048_S2048x1024_0 (Host.divf (broadcastInDim Cert.HeadReferenceIdeal.S2048 ![] Cert.HeadReferenceIdeal.Gen.bcast_S_S2048 (mulf (constant Cert.HeadReferenceIdeal.S_ .f32 0x3F000000#32) (constant Cert.HeadReferenceIdeal.S_ .f32 0x3F800000#32))) (broadcastInDim Cert.HeadReferenceIdeal.S2048 ![] Cert.HeadReferenceIdeal.Gen.bcast_S_S2048 (constant Cert.HeadReferenceIdeal.S_ .f32 0x44800000#32)))) (mulf (broadcastInDim Cert.HeadReferenceIdeal.S2048x1024 ![] Cert.HeadReferenceIdeal.Gen.bcast_S_S2048x1024 (constant Cert.HeadReferenceIdeal.S_ .f32 0x40000000#32)) e)

/-- The loss, filling a tile. -/
def loss (e : FVec Ideal Cert.HeadReferenceIdeal.S2048x1024 .f32) : FVec Ideal Cert.HeadReferenceIdeal.S8x128 .f32 :=
  broadcastInDim Cert.HeadReferenceIdeal.S8x128 ![] Cert.HeadReferenceIdeal.Gen.bcast_S_S8x128 (mulf (constant Cert.HeadReferenceIdeal.S_ .f32 0x3F000000#32) (Host.reduceAdd (Host.divf (Host.reduceAdd (mulf e e) (constant Cert.HeadReferenceIdeal.S_ .f32 0x00000000#32) Cert.HeadReferenceIdeal.Gen.reducesTo_S2048x1024_S2048_d1 Cert.HeadReferenceIdeal.Gen.h_S_) (broadcastInDim Cert.HeadReferenceIdeal.S2048 ![] Cert.HeadReferenceIdeal.Gen.bcast_S_S2048 (constant Cert.HeadReferenceIdeal.S_ .f32 0x44800000#32))) (constant Cert.HeadReferenceIdeal.S_ .f32 0x00000000#32) Cert.HeadReferenceIdeal.Gen.reducesTo_S2048_S_d0 Cert.HeadReferenceIdeal.Gen.h_S_))

/-- The loss's gradient with respect to the activations before the norm. -/
def gX (x : FVec Ideal Cert.HeadReferenceIdeal.S2048x1024 .f32) (g : FVec Ideal Cert.HeadReferenceIdeal.S1024 .f32) (gh : FVec Ideal Cert.HeadReferenceIdeal.S2048x1024 .f32) : FVec Ideal Cert.HeadReferenceIdeal.S2048x1024 .f32 :=
  addf (addf (mulf (gGained g gh) (broadcastInDim Cert.HeadReferenceIdeal.S2048x1024 ![0, 1] Cert.HeadReferenceIdeal.Gen.bcast_S2048x1_S2048x1024_0_1 (Host.rsqrt (msq x)))) (mulf x (gMean x (gGained g gh) (msq x)))) (mulf (gMean x (gGained g gh) (msq x)) x)

/-! ## Blocks -/

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

/-- The three arrays the program is given, as the reference reads them. -/
abbrev xs (c : Dev nD) : FVec Ideal Cert.HeadReferenceIdeal.S2048x1024 .f32 := m ((c : Thread nD τ).loc main_arg0)
abbrev gs (c : Dev nD) : FVec Ideal Cert.HeadReferenceIdeal.S1024 .f32 := m ((c : Thread nD τ).loc main_arg1)
abbrev ys (c : Dev nD) : FVec Ideal Cert.HeadReferenceIdeal.S2048x1024 .f32 := m ((c : Thread nD τ).loc main_arg2)
/-- The reference's error of these. -/
abbrev es (c : Dev nD) : FVec Ideal Cert.HeadReferenceIdeal.S2048x1024 .f32 := err (xs m c) (gs m c) (ys m c)

theorem root_point (c : Dev nD) (t : Fin cfg0.N) (y : S512x1.Idx) (j : Cert.HeadReferenceIdeal.S2048x1.Idx)
    (h0 : (j 0 : ℕ) = t.val * 512 + y 0) :
    k0_pay4 (iblk m c 0 t) y = Ideal.rsqrt (msq (xs m c) j) := by
  pointwise [k0_pay4, msq]
  blk_point [iblk, V, idx_val t]

theorem x_point (c : Dev nD) (t : Fin cfg0.N) (y : S512x1024.Idx) (j : Cert.HeadReferenceIdeal.S2048x1024.Idx)
    (h0 : (j 0 : ℕ) = t.val * 512 + y 0) (h1 : (j 1 : ℕ) = y 1) :
    (iblk m c 0 t : Vec Ideal S512x1024 .f32) y = xs m c j := by
  blk_point [iblk, V, idx_val t]

theorem y_point (c : Dev nD) (t : Fin cfg0.N) (y : S512x1024.Idx) (j : Cert.HeadReferenceIdeal.S2048x1024.Idx)
    (h0 : (j 0 : ℕ) = t.val * 512 + y 0) (h1 : (j 1 : ℕ) = y 1) :
    (iblk m c 2 t : Vec Ideal S512x1024 .f32) y = ys m c j := by
  blk_point [iblk, V, idx_val t]

theorem g_point (c : Dev nD) (t : Fin cfg0.N) (k : Fin 1024) :
    (iblk m c 1 t : Vec Ideal S1x1024 .f32) (ix2 0 k) = gs m c (ix1 k) := by
  blk_point [iblk, V, idx_val t]

/-- The error at a place of the block. -/
theorem err_point (c : Dev nD) (t : Fin cfg0.N) (y : S512x1024.Idx) (j : Cert.HeadReferenceIdeal.S2048x1024.Idx)
    (h0 : (j 0 : ℕ) = t.val * 512 + y 0) (h1 : (j 1 : ℕ) = y 1) :
    k0_pay6 (iblk m c 0 t) (iblk m c 1 t) (iblk m c 2 t) y = es m c j := by
  have e1 : (j 1 : Fin 1024) = y 1 := Fin.ext h1
  pointwise [k0_pay6, k0_pay5, err, gGained]
  rw [x_point m c t y j h0 h1, y_point m c t y j h0 h1, root_point m c t (ix2 (y 0) 0) (ix2 (j 0) 0) h0, g_point m c t (y 1), ← e1]

/-- Half of two over the row's length is one over it. -/
theorem scale (e : EReal) :
    e * Ideal.ofBits FTy.f32 0x3A800000#32
      = Ideal.div (Ideal.ofBits FTy.f32 0x3F000000#32) (Ideal.ofBits FTy.f32 0x44800000#32)
          * (Ideal.ofBits FTy.f32 0x40000000#32 * e) := by
  have b1 : Ideal.ofBits FTy.f32 0x3A800000#32 = ((1 / 1024 : ℝ) : EReal) := by
    simp [Ideal.ofBits, Ideal.ieee, -EReal.coe_mul] <;> norm_num
  have b3 : Ideal.ofBits FTy.f32 0x40000000#32 = ((2 : ℝ) : EReal) := by
    simp [Ideal.ofBits, Ideal.ieee, -EReal.coe_mul] <;> norm_num
  rw [b1, b3, Cert.NormGrad.bits_half, Cert.NormGrad.bits_1024, Ideal.div_coe (by norm_num), ← mul_assoc, ← EReal.coe_mul, ← EReal.coe_mul, mul_comm]
  congr 2
  norm_num

/-- The error's gradient at a place of the block. -/
theorem gerr_point (c : Dev nD) (t : Fin cfg0.N) (y : S512x1024.Idx) (j : Cert.HeadReferenceIdeal.S2048x1024.Idx)
    (h0 : (j 0 : ℕ) = t.val * 512 + y 0) (h1 : (j 1 : ℕ) = y 1) :
    k0_pay7 (iblk m c 0 t) (iblk m c 1 t) (iblk m c 2 t) y = gErr (es m c) j := by
  pointwise [k0_pay7, gErr]
  rw [err_point m c t y j h0 h1]
  exact scale _

/-- The activations' gradient at a place of the block. -/
theorem in_point (c : Dev nD) (t : Fin cfg0.N) (y : S512x1024.Idx) (j : Cert.HeadReferenceIdeal.S2048x1024.Idx)
    (h0 : (j 0 : ℕ) = t.val * 512 + y 0) (h1 : (j 1 : ℕ) = y 1) :
    k0_pay8 (iblk m c 0 t) (iblk m c 1 t) (iblk m c 2 t) (iblk m c 1 t) y = gX (xs m c) (gs m c) (gErr (es m c)) j := by
  have e1 : (j 1 : Fin 1024) = y 1 := Fin.ext h1
  pointwise [k0_pay8, k0_pay5, gX, gGained, gMean]
  rw [gerr_point m c t y j h0 h1, x_point m c t y j h0 h1, root_point m c t (ix2 (y 0) 0) (ix2 (j 0) 0) h0, g_point m c t (y 1), ← e1]
  simp only [fun x => gerr_point m c t (ix2 (y 0) x) (ix2 (j 0) x) h0 rfl, fun x => x_point m c t (ix2 (y 0) x) (ix2 (j 0) x) h0 rfl,
    fun x => g_point m c t x, Finset.univ_unique, Finset.sum_singleton]
  have h := Cert.NormGrad.norm_grad _ (msq_pos (xs m c) (ix2 (j 0) 0)) 0 (xs m c j) (gErr (es m c) j * gs m c (ix1 (j 1)))
    (fun k : Fin 1024 => xs m c (ix2 (j 0) k)) (fun k => gErr (es m c) (ix2 (j 0) k) * gs m c (ix1 k))
  rw [zero_add, zero_add] at h
  exact h

theorem final_4 (c : Dev nD) : (dats m 0 c).arrAt 4 (cfgs 0).N = gX (xs m c) (gs m c) (gErr (es m c)) := by
  refine (dats m 0 c).arrAt_eq_of_covers 4 _ (by decide +kernel) fun t hf y => ?_
  blk_simp; rw [after0_4]
  have hN : t.val < 4 := lt_of_lt_of_eq t.isLt (show cfg0.N = 4 from N_0)
  by_cases h : t.val % 4 = 0
  · rw [outsAt0_A m c t h (by omega)]; frame_out
    refine in_point m c t y _ ?_ ?_
    all_goals (blk_simp [idx_val t])
  · rw [outsAt0_B m c t h (by omega)]; frame_out
    refine in_point m c t y _ ?_ ?_
    all_goals (blk_simp [idx_val t])

/-! ## What is added up over the tiles -/

/-- A tile's part of the gain's gradient. -/
def gainPart (c : Dev nD) (t : Fin cfg0.N) : FVec Ideal S1x1024 .f32 :=
  k0_pay9 (iblk m c 0 t) (iblk m c 1 t) (iblk m c 2 t)

theorem pay9_apply (x : FVec Ideal S512x1024 .f32) (g : FVec Ideal S1x1024 .f32) (z : FVec Ideal S512x1024 .f32) (y : S1x1024.Idx) :
    k0_pay9 x g z y = ∑ i : Fin 512, k0_pay7 x g z (ix2 i (y 1)) * (x (ix2 i (y 1)) * k0_pay4 x (ix2 i 0)) := by
  pointwise [k0_pay9, k0_pay5]

theorem gain_eq (c : Dev nD) (y : S1x1024.Idx) :
    ∑ t : Fin cfg0.N, gainPart m c t y = gGain (xs m c) (gErr (es m c)) y := by
  simp only [gainPart, pay9_apply]
  pointwise [gGain]
  simp only [Finset.univ_unique, Finset.sum_singleton]
  refine Fin.sum_mul_add_congr fun t r hl => ?_
  rw [gerr_point m c t (ix2 r (y 1)) (ix2 ⟨t.val * 512 + r.val, hl⟩ (y 1)) rfl rfl, x_point m c t (ix2 r (y 1)) (ix2 ⟨t.val * 512 + r.val, hl⟩ (y 1)) rfl rfl,
    root_point m c t (ix2 r 0) (ix2 ⟨t.val * 512 + r.val, hl⟩ 0) rfl]
  exact mul_comm _ _

theorem final_5 (c : Dev nD) : (dats m 0 c).arrAt 5 (cfgs 0).N = gGain (xs m c) (gErr (es m c)) := by
  refine (dats m 0 c).arrAt_eq_of_after_last 5 t0_3 (by decide +kernel) _ fun j => ?_
  have hN : ∀ t : Fin cfg0.N, t.val < 4 := fun t => lt_of_lt_of_eq t.isLt (show cfg0.N = 4 from N_0)
  blk_simp
  rw [after0_5, Pipeline.eq_sum_fin_of_reset_step_apply_last (fun n h => (outsAt0 m c n h).2.2) 4 (fun _ => 0) (fun t => gainPart m c t)
    (fun t h j => by
      have := hN t
      rw [outsAt0_A m c t h (by omega)]; frame_out; exact (zero_add _).symm)
    (fun t h j => by
      have := hN t
      rw [outsAt0_B m c t h (by omega)]; frame_out; pointwise [k0_pay2, gainPart])
    (le_of_eq N_0) t0_3 rfl j, zero_add]
  exact gain_eq m c _

/-- A tile's part of the loss. -/
def lossPart (c : Dev nD) (t : Fin cfg0.N) : FVec Ideal S8x128 .f32 :=
  k0_pay1 k0_pay10 (k0_pay11 (iblk m c 0 t) (iblk m c 1 t) (iblk m c 2 t))

theorem pay1_apply (x : FVec Ideal S512x1024 .f32) (g : FVec Ideal S1x1024 .f32) (z : FVec Ideal S512x1024 .f32) (y : S8x128.Idx) :
    k0_pay1 k0_pay10 (k0_pay11 x g z) y = Ideal.ofBits FTy.f32 0x3F000000#32
      * ∑ i : Fin 512, Ideal.div (∑ k : Fin 1024, k0_pay6 (F := Ideal) x g z (ix2 i k) * k0_pay6 (F := Ideal) x g z (ix2 i k)) (Ideal.ofBits FTy.f32 0x44800000#32) := by
  pointwise [k0_pay1, k0_pay10, k0_pay11]
  simp only [Finset.univ_unique, Finset.sum_singleton]

theorem loss_eq (c : Dev nD) (y : S8x128.Idx) : ∑ t : Fin cfg0.N, lossPart m c t y = loss (es m c) y := by
  simp only [lossPart, pay1_apply]
  pointwise [loss]
  rw [Cert.NormGrad.bits_half, ← Cert.NormGrad.mul_sum _ (by norm_num)]
  refine congrArg _ (Fin.sum_mul_add_congr fun t r hl => ?_)
  simp only [fun k => err_point m c t (ix2 r k) (ix2 ⟨t.val * 512 + r.val, hl⟩ k) rfl rfl]

theorem final_3 (c : Dev nD) : (dats m 0 c).arrAt 3 (cfgs 0).N = loss (es m c) := by
  refine (dats m 0 c).arrAt_eq_of_after_last 3 t0_3 (by decide +kernel) _ fun j => ?_
  have hN : ∀ t : Fin cfg0.N, t.val < 4 := fun t => lt_of_lt_of_eq t.isLt (show cfg0.N = 4 from N_0)
  blk_simp
  rw [after0_3, Pipeline.eq_sum_fin_of_reset_step_apply_last (fun n h => (outsAt0 m c n h).1) 4 (fun _ => 0) (fun t => lossPart m c t)
    (fun t h j => by
      have := hN t
      rw [outsAt0_A m c t h (by omega)]; frame_out; exact (zero_add _).symm)
    (fun t h j => by
      have := hN t
      rw [outsAt0_B m c t h (by omega)]; frame_out; pointwise [k0_pay3, lossPart])
    (le_of_eq N_0) t0_3 rfl j, zero_add]
  exact loss_eq m c _

end Cert.HeadKernelIdeal.HeadValue

end
-- ==== Proof.DwInValue.lean ====
module

public import proofs.«01_k».proof.Proof.Gen.DwInKernelIdeal.Frame
public import proofs.«01_k».proof.Proof.Gen.DwInReferenceIdeal
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DwInKernelIdeal.DwInValue

open Cert.DwInKernelIdeal Cert.DwInKernelIdeal.Gen

variable (m : (ℓ : Loc nD τ sig) → Buf (Elt Ideal) ℓ)

/-- The weight's gradient as the reference makes it, the columns' shard first and the rows in two halves. -/
def gW (h : FVec Ideal Cert.DwInReferenceIdeal.S2048x1024 .f32) (d : FVec Ideal Cert.DwInReferenceIdeal.S2048x2560 .f32) : FVec Ideal Cert.DwInReferenceIdeal.S4x2x512x640 .bf16 :=
  truncf .bf16 (transpose Cert.DwInReferenceIdeal.S4x2x512x640 [2, 0, 1, 3] (shapeCast _ (transpose Cert.DwInReferenceIdeal.S1024x2560 [1, 0] (Host.dotGeneral Cert.DwInReferenceIdeal.dot_S2048x2560_S2048x1024_S2560x1024_0_0_1_1_n_n none d h) Cert.DwInReferenceIdeal.Gen.transposes_S2560x1024_S1024x2560_1_0) Cert.DwInReferenceIdeal.Gen.shapeCasts_S1024x2560_S2x512x4x640) Cert.DwInReferenceIdeal.Gen.transposes_S2x512x4x640_S4x2x512x640_2_0_1_3) Cert.DwInReferenceIdeal.Gen.bitsLt_bf16_f32

theorem idx_val : ∀ t : Fin cfg0.N, win0_0.index t = ![0, 0]
    ∧ win0_1.index t = ![0, t.val]
    ∧ win0_2.index t = ![t.val, 0, 0, 0] :=
  (by decide +kernel : ∀ t : Fin grid0.N, _)

/-- What the body makes of a shard's columns is the reference's gradient, place by place. -/
theorem grad_point (c : Dev nD) (t : Fin cfg0.N) (y : S1x2x512x640.Idx) (j : Cert.DwInReferenceIdeal.S4x2x512x640.Idx)
    (h0 : (j 0 : ℕ) = t.val + y 0) (h1 : (j 1 : ℕ) = y 1) (h2 : (j 2 : ℕ) = y 2) (h3 : (j 3 : ℕ) = y 3) :
    k0_pay1 (iblk m c 1 t) (iblk m c 0 t) y = gW (m ((c : Thread nD τ).loc main_arg0)) (m ((c : Thread nD τ).loc main_arg1)) j := by
  pointwise [k0_pay1, gW]
  refine Finset.sum_congr rfl fun k _ => ?_
  rw [mul_comm]
  refine congr (congrArg HMul.hMul ?_) ?_
  all_goals (blk_point [iblk, V, idx_val t])

theorem final_2 (c : Dev nD) : (dats m 0 c).arrAt 2 (cfgs 0).N = gW (m ((c : Thread nD τ).loc main_arg0)) (m ((c : Thread nD τ).loc main_arg1)) := by
  refine (dats m 0 c).arrAt_eq_of_covers 2 _ (by decide +kernel) fun t hf y => ?_
  blk_simp; rw [after0_2]; frame_out
  refine grad_point m c t y _ ?_ ?_ ?_ ?_
  all_goals (blk_simp [idx_val t] <;> simp)

end Cert.DwInKernelIdeal.DwInValue

end
-- ==== Proof.DwOutValue.lean ====
module

public import proofs.«01_k».proof.Proof.Gen.DwOutKernelIdeal.Frame
public import proofs.«01_k».proof.Proof.Gen.DwOutReferenceIdeal
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)
open scoped BigOperators

namespace Cert.DwOutKernelIdeal.DwOutValue

open Cert.DwOutKernelIdeal Cert.DwOutKernelIdeal.Gen

variable (m : (ℓ : Loc nD τ sig) → Buf (Elt Ideal) ℓ)

/-- The weight's gradient as the reference makes it, a shard's rows in two halves. -/
def gW (x d : FVec Ideal Cert.DwOutReferenceIdeal.S2048x1024 .f32) : FVec Ideal Cert.DwOutReferenceIdeal.S4x2x128x1024 .bf16 :=
  truncf .bf16 (shapeCast _ (transpose Cert.DwOutReferenceIdeal.S1024x1024 [1, 0] (Host.dotGeneral Cert.DwOutReferenceIdeal.dot_S2048x1024_S2048x1024_S1024x1024_0_0_1_1_n_n none d x) Cert.DwOutReferenceIdeal.Gen.transposes_S1024x1024_S1024x1024_1_0) Cert.DwOutReferenceIdeal.Gen.shapeCasts_S1024x1024_S4x2x128x1024) Cert.DwOutReferenceIdeal.Gen.bitsLt_bf16_f32

theorem idx_val : ∀ t : Fin cfg0.N, win0_0.index t = ![0, t.val]
    ∧ win0_1.index t = ![0, 0]
    ∧ win0_2.index t = ![t.val, 0, 0, 0] :=
  (by decide +kernel : ∀ t : Fin grid0.N, _)

/-- What the body makes of a shard's columns is the reference's gradient, place by place. -/
theorem grad_point (c : Dev nD) (t : Fin cfg0.N) (y : S1x2x128x1024.Idx) (j : Cert.DwOutReferenceIdeal.S4x2x128x1024.Idx)
    (h0 : (j 0 : ℕ) = t.val + y 0) (h1 : (j 1 : ℕ) = y 1) (h2 : (j 2 : ℕ) = y 2) (h3 : (j 3 : ℕ) = y 3) :
    k0_pay1 (iblk m c 1 t) (iblk m c 0 t) y = gW (m ((c : Thread nD τ).loc main_arg0)) (m ((c : Thread nD τ).loc main_arg1)) j := by
  pointwise [k0_pay1, gW]
  refine Finset.sum_congr rfl fun k _ => ?_
  rw [mul_comm]
  refine congr (congrArg HMul.hMul ?_) ?_
  all_goals (blk_point [iblk, V, idx_val t])

theorem final_2 (c : Dev nD) : (dats m 0 c).arrAt 2 (cfgs 0).N = gW (m ((c : Thread nD τ).loc main_arg0)) (m ((c : Thread nD τ).loc main_arg1)) := by
  refine (dats m 0 c).arrAt_eq_of_covers 2 _ (by decide +kernel) fun t hf y => ?_
  blk_simp; rw [after0_2]; frame_out
  refine grad_point m c t y _ ?_ ?_ ?_ ?_
  all_goals (blk_simp [idx_val t] <;> simp)

end Cert.DwOutKernelIdeal.DwOutValue

end
-- ==== Proof.lean ====
module

public import proofs.«01_k».proof.Proof.Gen.DxKernelIdeal.Value
public import proofs.«01_k».proof.Proof.Gen.DxReferenceIdeal.Run
public import proofs.«01_k».proof.Proof.Gen.FwdKernelIdeal.Value
public import proofs.«01_k».proof.Proof.Gen.FwdReferenceIdeal.Run
public import proofs.«01_k».proof.Proof.FwdValue
public import proofs.«01_k».proof.Proof.DxValue
public import proofs.«01_k».proof.Proof.MidRun
public import proofs.«01_k».proof.Proof.MidValue
public import proofs.«01_k».proof.Proof.SmallValue
public import proofs.«01_k».proof.Proof.HiddenValue
public import proofs.«01_k».proof.Proof.InValue
public import proofs.«01_k».proof.Proof.OutValue
public import proofs.«01_k».proof.Proof.IntoValue
public import proofs.«01_k».proof.Proof.OntoValue
public import proofs.«01_k».proof.Proof.MixedValue
public import proofs.«01_k».proof.Proof.BackValue
public import proofs.«01_k».proof.Proof.HeadValue
public import proofs.«01_k».proof.Proof.DwInValue
public import proofs.«01_k».proof.Proof.DwOutValue
public import proofs.«01_k».proof.Defs
public import proofs.«01_k».proof.Proof.Gen.HiddenKernel.Frame
public import proofs.«01_k».proof.Proof.Gen.HiddenReferenceIdeal.Run
public import proofs.«01_k».proof.Proof.Gen.InKernel.Frame
public import proofs.«01_k».proof.Proof.Gen.InReferenceIdeal.Run
public import proofs.«01_k».proof.Proof.Gen.OutKernel.Frame
public import proofs.«01_k».proof.Proof.Gen.OutReferenceIdeal.Run
public import proofs.«01_k».proof.Proof.Gen.FwdKernel.Frame
public import proofs.«01_k».proof.Proof.Gen.DxKernel.Frame
public import proofs.«01_k».proof.Proof.Gen.FwdKernel
public import proofs.«01_k».proof.Proof.Gen.FwdKernelIdeal
public import proofs.«01_k».proof.Proof.Gen.FwdReferenceIdeal
public import proofs.«01_k».proof.Proof.Gen.DxKernel
public import proofs.«01_k».proof.Proof.Gen.DxKernelIdeal
public import proofs.«01_k».proof.Proof.Gen.DxReferenceIdeal
public import proofs.«01_k».proof.Proof.Gen.SmallKernel.Frame
public import proofs.«01_k».proof.Proof.Gen.SmallKernelIdeal.Value
public import proofs.«01_k».proof.Proof.Gen.SmallReferenceIdeal.Run
public import proofs.«01_k».proof.Proof.Gen.MidKernel
public import proofs.«01_k».proof.Proof.Gen.MidKernelIdeal
public import proofs.«01_k».proof.Proof.Gen.MidReferenceIdeal
public import proofs.«01_k».proof.Proof.Gen.MidReferenceIdeal.Run
public import proofs.«01_k».proof.Proof.Gen.Pre_finite_mid
public import proofs.«01_k».proof.Proof.Gen.IntoKernel.Frame
public import proofs.«01_k».proof.Proof.Gen.IntoKernelIdeal.Value
public import proofs.«01_k».proof.Proof.Gen.IntoReferenceIdeal.Run
public import proofs.«01_k».proof.Proof.Gen.OntoKernel.Frame
public import proofs.«01_k».proof.Proof.Gen.OntoKernelIdeal.Value
public import proofs.«01_k».proof.Proof.Gen.OntoReferenceIdeal.Run
public import proofs.«01_k».proof.Proof.Gen.MixedKernel.Frame
public import proofs.«01_k».proof.Proof.Gen.MixedKernelIdeal.Value
public import proofs.«01_k».proof.Proof.Gen.MixedReferenceIdeal.Run
public import proofs.«01_k».proof.Proof.Gen.BackKernel.Frame
public import proofs.«01_k».proof.Proof.Gen.BackKernelIdeal.Value
public import proofs.«01_k».proof.Proof.Gen.BackReferenceIdeal.Run
public import proofs.«01_k».proof.Proof.Gen.DwInKernel.Frame
public import proofs.«01_k».proof.Proof.Gen.DwInKernelIdeal.Value
public import proofs.«01_k».proof.Proof.Gen.DwInReferenceIdeal.Run
public import proofs.«01_k».proof.Proof.Gen.DwOutKernel.Frame
public import proofs.«01_k».proof.Proof.Gen.DwOutKernelIdeal.Value
public import proofs.«01_k».proof.Proof.Gen.DwOutReferenceIdeal.Run
public import proofs.«01_k».proof.Proof.Gen.HeadKernel.Frame
public import proofs.«01_k».proof.Proof.Gen.HeadKernelIdeal.Value
public import proofs.«01_k».proof.Proof.Gen.HeadReferenceIdeal.Run
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The forward layer's reference runs. -/
theorem fwd_reference : Cert.quiescent_FwdReferenceIdeal (hFwdReferenceIdeal := Cert.FwdReferenceIdeal.Gen.facts) := by
  intro m g _
  exact (θ_run Cert.FwdReferenceIdeal.defs _ _).mono (fun r h => ⟨fun c => (h c).2.2.2.2, sem_eq_zero_of_no_sems (by decide) r.2⟩)
    (Cert.FwdReferenceIdeal.Value.run m g)

set_option maxHeartbeats 1600000 in
/-- The backward reference of the layer's head runs. -/
theorem dx_reference : Cert.quiescent_DxReferenceIdeal (hDxReferenceIdeal := Cert.DxReferenceIdeal.Gen.facts) := by
  intro m g _
  exact (θ_run Cert.DxReferenceIdeal.defs _ _).mono (fun r h => ⟨fun c => (h c).2.2, sem_eq_zero_of_no_sems (by decide) r.2⟩)
    (Cert.DxReferenceIdeal.Value.run m g)

set_option maxHeartbeats 1600000 in
/-- The layer: its output, its normalised rows and its two hidden products. -/
theorem fwd_value : Cert.algebraic_FwdKernelIdeal_FwdReferenceIdeal (hFwdKernelIdeal := Cert.FwdKernelIdeal.Gen.facts) (hFwdReferenceIdeal := Cert.FwdReferenceIdeal.Gen.facts) := by
  pair_intro
  · run_from Cert.FwdKernelIdeal.Gen.run_main m g
  · run_from Cert.FwdReferenceIdeal.Value.run m' g'
    · exact (Cert.FwdKernelIdeal.FwdValue.final_5 m c).symm
    · exact (Cert.FwdKernelIdeal.FwdValue.final_6 m c).symm
    · exact (Cert.FwdKernelIdeal.FwdValue.final_7 m c).symm
    · exact (Cert.FwdKernelIdeal.FwdValue.final_8 m c).symm

set_option maxHeartbeats 1600000 in
/-- The layer's gradient at its input and at its gain. -/
theorem dx_value : Cert.algebraic_DxKernelIdeal_DxReferenceIdeal (hDxKernelIdeal := Cert.DxKernelIdeal.Gen.facts) (hDxReferenceIdeal := Cert.DxReferenceIdeal.Gen.facts) := by
  pair_intro
  · run_from Cert.DxKernelIdeal.Gen.run_main m g
  · run_from Cert.DxReferenceIdeal.Value.run m' g'
    · obtain ⟨e0, e1, e2, e3, e4, e5, e6⟩ := hagree c
      unfold Cert.DxReferenceIdeal.Value.res_main_v41
      rw [e0, e1, e2, e3, e4, e5, e6]
      exact (Cert.DxKernelIdeal.DxValue.final_7 m c).symm
    · exact (Cert.DxKernelIdeal.DxValue.final_8 m c).symm

/-- The two programs' tables of bodies are one: each label runs the same text. -/
theorem mid_bodies : Cert.MidKernel.defs (F := Bits) = Cert.MidKernelIdeal.defs (F := Bits) := by
  refine congrArg (Pipeline.defs Cert.MidKernelIdeal.pcfgs) (congrArg Defs.onTc (funext fun ℓ => funext fun x => ?_))
  match ℓ, x with
  | 0, (_, _) => exact rfl
  | ⟨_ + 1, h⟩, _ => exact absurd h (by omega)

/-- The two programs' host code is one text. -/
theorem mid_hosts : Cert.MidKernel.main (F := Bits) = Cert.MidKernelIdeal.main (F := Bits) := rfl

/-- The kernel of the hidden gradients and the weights' gradients ends with its arguments as they were and no semaphore
raised: its run is over any float values, the machine's too. -/
theorem mid_kernel : Cert.quiescent_MidKernel (hMidKernel := Cert.MidKernel.Gen.facts) := fun m ρ _ => by
  have h := Cert.MidKernelIdeal.ends_quiet (F := Bits) m ρ
  rw [← mid_hosts, ← mid_bodies] at h
  exact h

set_option maxHeartbeats 1600000 in
/-- The backward reference of the layer's body runs, -/
theorem mid_reference : Cert.quiescent_MidReferenceIdeal (hMidReferenceIdeal := Cert.MidReferenceIdeal.Gen.facts) := by
  intro m g _
  exact (θ_run Cert.MidReferenceIdeal.defs _ _).mono (fun r h => ⟨fun c => (h c).2.2.2.2.2, sem_eq_zero_of_no_sems (by decide) r.2⟩)
    (Cert.MidReferenceIdeal.Value.run m g)

set_option maxHeartbeats 1600000 in
/-- The two hidden gradients and the three weights' gradients. -/
theorem mid_value : Cert.algebraic_MidKernelIdeal_MidReferenceIdeal_pre_finite_mid (hMidKernelIdeal := Cert.MidKernelIdeal.Gen.facts)
    (hMidReferenceIdeal := Cert.MidReferenceIdeal.Gen.facts) (hPre_finite_mid := Cert.Pre_finite_mid.Gen.facts) := by
  pair_intro
  · run_from Cert.MidKernelIdeal.array_run m g
  · run_from Cert.MidReferenceIdeal.Value.run m' g'
    · exact (Cert.MidKernelIdeal.MidValue.final_5 m c (Cert.MidKernelIdeal.MidValue.numbers m c (hpre c))).symm
    · exact (Cert.MidKernelIdeal.MidValue.final_6 m c).symm
    · exact (Cert.MidKernelIdeal.MidValue.final_7 m c).symm
    · exact (Cert.MidKernelIdeal.MidValue.final_8 m c (Cert.MidKernelIdeal.MidValue.numbers m c (hpre c))).symm
    · exact (Cert.MidKernelIdeal.MidValue.final_9 m c).symm

set_option maxHeartbeats 1600000 in
/-- The reference of the optimiser's step on the packed small weights runs. -/
theorem small_reference : Cert.quiescent_SmallReferenceIdeal (hSmallReferenceIdeal := Cert.SmallReferenceIdeal.Gen.facts) := by
  intro m g _
  exact (θ_run Cert.SmallReferenceIdeal.defs _ _).mono (fun r h => ⟨fun c => (h c).2.2.2.2, sem_eq_zero_of_no_sems (by decide) r.2⟩)
    (Cert.SmallReferenceIdeal.Value.run m g)

set_option maxHeartbeats 1600000 in
/-- The optimiser's step on the packed small weights: the change and the two moments. -/
theorem small_value : Cert.algebraic_SmallKernelIdeal_SmallReferenceIdeal (hSmallKernelIdeal := Cert.SmallKernelIdeal.Gen.facts)
    (hSmallReferenceIdeal := Cert.SmallReferenceIdeal.Gen.facts) := by
  pair_intro
  · run_from Cert.SmallKernelIdeal.Gen.run_main m g
  · run_from Cert.SmallReferenceIdeal.Value.run m' g'
    · exact (Cert.SmallKernelIdeal.SmallValue.final_4 m c).symm
    · exact (Cert.SmallKernelIdeal.SmallValue.final_5 m c).symm
    · exact (Cert.SmallKernelIdeal.SmallValue.final_6 m c).symm
    · exact (Cert.SmallKernelIdeal.SmallValue.final_7 m c).symm

set_option maxHeartbeats 1600000 in
/-- The reference of the optimiser's step on a shard of a hidden-layer weight runs. -/
theorem hidden_reference : Cert.quiescent_HiddenReferenceIdeal (hHiddenReferenceIdeal := Cert.HiddenReferenceIdeal.Gen.facts) := by
  intro m g _
  exact (θ_run Cert.HiddenReferenceIdeal.defs _ _).mono (fun r h => ⟨fun c => (h c).2.2.2.2, sem_eq_zero_of_no_sems (by decide) r.2⟩)
    (Cert.HiddenReferenceIdeal.Value.run m g)

set_option maxHeartbeats 1600000 in
/-- The optimiser's step on a shard of a hidden-layer weight: the change and the two moments. -/
theorem hidden_value : Cert.algebraic_HiddenKernelIdeal_HiddenReferenceIdeal (hHiddenKernelIdeal := Cert.HiddenKernelIdeal.Gen.facts)
    (hHiddenReferenceIdeal := Cert.HiddenReferenceIdeal.Gen.facts) := by
  pair_intro
  · run_from Cert.HiddenKernelIdeal.HiddenValue.results m g
  · run_from Cert.HiddenReferenceIdeal.Value.run m' g'
    all_goals rfl

set_option maxHeartbeats 1600000 in
/-- The reference of the optimiser's step on a shard of the input projection's weight runs. -/
theorem in_reference : Cert.quiescent_InReferenceIdeal (hInReferenceIdeal := Cert.InReferenceIdeal.Gen.facts) := by
  intro m g _
  exact (θ_run Cert.InReferenceIdeal.defs _ _).mono (fun r h => ⟨fun c => (h c).2.2.2.2, sem_eq_zero_of_no_sems (by decide) r.2⟩)
    (Cert.InReferenceIdeal.Value.run m g)

set_option maxHeartbeats 1600000 in
/-- The optimiser's step on a shard of the input projection's weight: the change and the two moments. -/
theorem in_value : Cert.algebraic_InKernelIdeal_InReferenceIdeal (hInKernelIdeal := Cert.InKernelIdeal.Gen.facts)
    (hInReferenceIdeal := Cert.InReferenceIdeal.Gen.facts) := by
  pair_intro
  · run_from Cert.InKernelIdeal.InValue.results m g
  · run_from Cert.InReferenceIdeal.Value.run m' g'
    all_goals rfl

set_option maxHeartbeats 1600000 in
/-- The reference of the optimiser's step on a shard of the output projection's weight runs. -/
theorem out_reference : Cert.quiescent_OutReferenceIdeal (hOutReferenceIdeal := Cert.OutReferenceIdeal.Gen.facts) := by
  intro m g _
  exact (θ_run Cert.OutReferenceIdeal.defs _ _).mono (fun r h => ⟨fun c => (h c).2.2.2.2, sem_eq_zero_of_no_sems (by decide) r.2⟩)
    (Cert.OutReferenceIdeal.Value.run m g)

set_option maxHeartbeats 1600000 in
/-- The optimiser's step on a shard of the output projection's weight: the change and the two moments. -/
theorem out_value : Cert.algebraic_OutKernelIdeal_OutReferenceIdeal (hOutKernelIdeal := Cert.OutKernelIdeal.Gen.facts)
    (hOutReferenceIdeal := Cert.OutReferenceIdeal.Gen.facts) := by
  pair_intro
  · run_from Cert.OutKernelIdeal.OutValue.results m g
  · run_from Cert.OutReferenceIdeal.Value.run m' g'
    all_goals rfl

set_option maxHeartbeats 1600000 in
/-- The reference of the input projection runs. -/
theorem into_reference : Cert.quiescent_IntoReferenceIdeal (hIntoReferenceIdeal := Cert.IntoReferenceIdeal.Gen.facts) := by
  intro m g _
  exact (θ_run Cert.IntoReferenceIdeal.defs _ _).mono (fun r h => ⟨fun c => (h c).2.2, sem_eq_zero_of_no_sems (by decide) r.2⟩)
    (Cert.IntoReferenceIdeal.Value.run m g)

set_option maxHeartbeats 1600000 in
/-- The normed activations and their projection. -/
theorem into_value : Cert.algebraic_IntoKernelIdeal_IntoReferenceIdeal (hIntoKernelIdeal := Cert.IntoKernelIdeal.Gen.facts)
    (hIntoReferenceIdeal := Cert.IntoReferenceIdeal.Gen.facts) := by
  pair_intro
  · run_from Cert.IntoKernelIdeal.Gen.run_main m g
  · run_from Cert.IntoReferenceIdeal.Value.run m' g'
    · exact (Cert.IntoKernelIdeal.IntoValue.final_3 m c).symm
    · exact (Cert.IntoKernelIdeal.IntoValue.final_4 m c).symm

set_option maxHeartbeats 1600000 in
/-- The reference of the output projection runs. -/
theorem onto_reference : Cert.quiescent_OntoReferenceIdeal (hOntoReferenceIdeal := Cert.OntoReferenceIdeal.Gen.facts) := by
  intro m g _
  exact (θ_run Cert.OntoReferenceIdeal.defs _ _).mono (fun r h => ⟨fun c => (h c).2, sem_eq_zero_of_no_sems (by decide) r.2⟩)
    (Cert.OntoReferenceIdeal.Value.run m g)

set_option maxHeartbeats 1600000 in
/-- The residual with the projected channels added. -/
theorem onto_value : Cert.algebraic_OntoKernelIdeal_OntoReferenceIdeal (hOntoKernelIdeal := Cert.OntoKernelIdeal.Gen.facts)
    (hOntoReferenceIdeal := Cert.OntoReferenceIdeal.Gen.facts) := by
  pair_intro
  · run_from Cert.OntoKernelIdeal.Gen.run_main m g
  · run_from Cert.OntoReferenceIdeal.Value.run m' g'
    exact (Cert.OntoKernelIdeal.OntoValue.final_3 m c).symm

set_option maxHeartbeats 1600000 in
/-- The reference of the mixed channels' gradient runs. -/
theorem mixed_reference : Cert.quiescent_MixedReferenceIdeal (hMixedReferenceIdeal := Cert.MixedReferenceIdeal.Gen.facts) := by
  intro m g _
  exact (θ_run Cert.MixedReferenceIdeal.defs _ _).mono (fun r h => ⟨fun c => (h c).2, sem_eq_zero_of_no_sems (by decide) r.2⟩)
    (Cert.MixedReferenceIdeal.Value.run m g)

set_option maxHeartbeats 1600000 in
/-- The gradient of the mixed channels. -/
theorem mixed_value : Cert.algebraic_MixedKernelIdeal_MixedReferenceIdeal (hMixedKernelIdeal := Cert.MixedKernelIdeal.Gen.facts)
    (hMixedReferenceIdeal := Cert.MixedReferenceIdeal.Gen.facts) := by
  pair_intro
  · run_from Cert.MixedKernelIdeal.Gen.run_main m g
  · run_from Cert.MixedReferenceIdeal.Value.run m' g'
    exact (Cert.MixedKernelIdeal.MixedValue.final_2 m c).symm

set_option maxHeartbeats 1600000 in
/-- The reference of the input projection's gradient runs. -/
theorem back_reference : Cert.quiescent_BackReferenceIdeal (hBackReferenceIdeal := Cert.BackReferenceIdeal.Gen.facts) := by
  intro m g _
  exact (θ_run Cert.BackReferenceIdeal.defs _ _).mono (fun r h => ⟨fun c => (h c).2.2, sem_eq_zero_of_no_sems (by decide) r.2⟩)
    (Cert.BackReferenceIdeal.Value.run m g)

set_option maxHeartbeats 1600000 in
/-- The gradient at the input of the norm before the projection and at its gain. -/
theorem back_value : Cert.algebraic_BackKernelIdeal_BackReferenceIdeal (hBackKernelIdeal := Cert.BackKernelIdeal.Gen.facts)
    (hBackReferenceIdeal := Cert.BackReferenceIdeal.Gen.facts) := by
  pair_intro
  · run_from Cert.BackKernelIdeal.Gen.run_main m g
  · run_from Cert.BackReferenceIdeal.Value.run m' g'
    · obtain ⟨e0, e1, e2, e3, e4⟩ := hagree c
      unfold Cert.BackReferenceIdeal.Value.res_main_v38
      rw [e0, e1, e2, e3, e4]
      exact (Cert.BackKernelIdeal.BackValue.final_5 m c).symm
    · exact (Cert.BackKernelIdeal.BackValue.final_6 m c).symm

set_option maxHeartbeats 1600000 in
/-- The reference of the input projection's weight's gradient runs. -/
theorem dwin_reference : Cert.quiescent_DwInReferenceIdeal (hDwInReferenceIdeal := Cert.DwInReferenceIdeal.Gen.facts) := by
  intro m g _
  exact (θ_run Cert.DwInReferenceIdeal.defs _ _).mono (fun r h => ⟨fun c => (h c).2, sem_eq_zero_of_no_sems (by decide) r.2⟩)
    (Cert.DwInReferenceIdeal.Value.run m g)

set_option maxHeartbeats 1600000 in
/-- The gradient of the input projection's weight. -/
theorem dwin_value : Cert.algebraic_DwInKernelIdeal_DwInReferenceIdeal (hDwInKernelIdeal := Cert.DwInKernelIdeal.Gen.facts)
    (hDwInReferenceIdeal := Cert.DwInReferenceIdeal.Gen.facts) := by
  pair_intro
  · run_from Cert.DwInKernelIdeal.Gen.run_main m g
  · run_from Cert.DwInReferenceIdeal.Value.run m' g'
    exact (Cert.DwInKernelIdeal.DwInValue.final_2 m c).symm

set_option maxHeartbeats 1600000 in
/-- The reference of the output projection's weight's gradient runs. -/
theorem dwout_reference : Cert.quiescent_DwOutReferenceIdeal (hDwOutReferenceIdeal := Cert.DwOutReferenceIdeal.Gen.facts) := by
  intro m g _
  exact (θ_run Cert.DwOutReferenceIdeal.defs _ _).mono (fun r h => ⟨fun c => (h c).2, sem_eq_zero_of_no_sems (by decide) r.2⟩)
    (Cert.DwOutReferenceIdeal.Value.run m g)

set_option maxHeartbeats 1600000 in
/-- The gradient of the output projection's weight. -/
theorem dwout_value : Cert.algebraic_DwOutKernelIdeal_DwOutReferenceIdeal (hDwOutKernelIdeal := Cert.DwOutKernelIdeal.Gen.facts)
    (hDwOutReferenceIdeal := Cert.DwOutReferenceIdeal.Gen.facts) := by
  pair_intro
  · run_from Cert.DwOutKernelIdeal.Gen.run_main m g
  · run_from Cert.DwOutReferenceIdeal.Value.run m' g'
    exact (Cert.DwOutKernelIdeal.DwOutValue.final_2 m c).symm

set_option maxHeartbeats 1600000 in
/-- The reference of the loss and its gradients runs. -/
theorem head_reference : Cert.quiescent_HeadReferenceIdeal (hHeadReferenceIdeal := Cert.HeadReferenceIdeal.Gen.facts) := by
  intro m g _
  exact (θ_run Cert.HeadReferenceIdeal.defs _ _).mono (fun r h => ⟨fun c => (h c).2.2.2, sem_eq_zero_of_no_sems (by decide) r.2⟩)
    (Cert.HeadReferenceIdeal.Value.run m g)

set_option maxHeartbeats 1600000 in
/-- The loss and its gradients at the last activations and at the last norm's gain. -/
theorem head_value : Cert.algebraic_HeadKernelIdeal_HeadReferenceIdeal (hHeadKernelIdeal := Cert.HeadKernelIdeal.Gen.facts)
    (hHeadReferenceIdeal := Cert.HeadReferenceIdeal.Gen.facts) := by
  pair_intro
  · run_from Cert.HeadKernelIdeal.Gen.run_main m g
  · run_from Cert.HeadReferenceIdeal.Value.run m' g'
    · exact (Cert.HeadKernelIdeal.HeadValue.final_3 m c).symm
    · obtain ⟨e0, e1, e2⟩ := hagree c
      unfold Cert.HeadReferenceIdeal.Value.res_main_v50
      rw [e0, e1, e2]
      exact (Cert.HeadKernelIdeal.HeadValue.final_4 m c).symm
    · exact (Cert.HeadKernelIdeal.HeadValue.final_5 m c).symm

theorem claim : Cert.Claim :=
  ⟨Cert.FwdKernel.Gen.facts, Cert.FwdKernelIdeal.Gen.facts, Cert.FwdReferenceIdeal.Gen.facts, Cert.DxKernel.Gen.facts, Cert.DxKernelIdeal.Gen.facts, Cert.DxReferenceIdeal.Gen.facts,
    Cert.MidKernel.Gen.facts, Cert.MidKernelIdeal.Gen.facts, Cert.MidReferenceIdeal.Gen.facts,
    Cert.SmallKernel.Gen.facts, Cert.SmallKernelIdeal.Gen.facts, Cert.SmallReferenceIdeal.Gen.facts,
    Cert.HiddenKernel.Gen.facts, Cert.HiddenKernelIdeal.Gen.facts, Cert.HiddenReferenceIdeal.Gen.facts,
    Cert.InKernel.Gen.facts, Cert.InKernelIdeal.Gen.facts, Cert.InReferenceIdeal.Gen.facts,
    Cert.OutKernel.Gen.facts, Cert.OutKernelIdeal.Gen.facts, Cert.OutReferenceIdeal.Gen.facts,
    Cert.IntoKernel.Gen.facts, Cert.IntoKernelIdeal.Gen.facts, Cert.IntoReferenceIdeal.Gen.facts,
    Cert.OntoKernel.Gen.facts, Cert.OntoKernelIdeal.Gen.facts, Cert.OntoReferenceIdeal.Gen.facts,
    Cert.MixedKernel.Gen.facts, Cert.MixedKernelIdeal.Gen.facts, Cert.MixedReferenceIdeal.Gen.facts,
    Cert.BackKernel.Gen.facts, Cert.BackKernelIdeal.Gen.facts, Cert.BackReferenceIdeal.Gen.facts,
    Cert.DwInKernel.Gen.facts, Cert.DwInKernelIdeal.Gen.facts, Cert.DwInReferenceIdeal.Gen.facts,
    Cert.DwOutKernel.Gen.facts, Cert.DwOutKernelIdeal.Gen.facts, Cert.DwOutReferenceIdeal.Gen.facts,
    Cert.HeadKernel.Gen.facts, Cert.HeadKernelIdeal.Gen.facts, Cert.HeadReferenceIdeal.Gen.facts,
    Cert.Pre_finite_mid.Gen.facts,
    fun m ρ _ => Cert.FwdKernel.Gen.frame m ρ, fun m ρ _ => Cert.FwdKernelIdeal.Gen.frame m ρ, fwd_reference,
    fun m ρ _ => Cert.DxKernel.Gen.frame m ρ, fun m ρ _ => Cert.DxKernelIdeal.Gen.frame m ρ, dx_reference,
    mid_kernel, fun m ρ _ => Cert.MidKernelIdeal.ends_quiet m ρ, fun m ρ _ => Cert.MidKernelIdeal.ends_quiet m ρ,
    mid_reference, fun m ρ _ => mid_reference m ρ trivial,
    fun m ρ _ => Cert.SmallKernel.Gen.frame m ρ, fun m ρ _ => Cert.SmallKernelIdeal.Gen.frame m ρ, small_reference,
    fun m ρ _ => Cert.HiddenKernel.Gen.frame m ρ, fun m ρ _ => Cert.HiddenKernelIdeal.Gen.frame m ρ, hidden_reference,
    fun m ρ _ => Cert.InKernel.Gen.frame m ρ, fun m ρ _ => Cert.InKernelIdeal.Gen.frame m ρ, in_reference,
    fun m ρ _ => Cert.OutKernel.Gen.frame m ρ, fun m ρ _ => Cert.OutKernelIdeal.Gen.frame m ρ, out_reference,
    fun m ρ _ => Cert.IntoKernel.Gen.frame m ρ, fun m ρ _ => Cert.IntoKernelIdeal.Gen.frame m ρ, into_reference,
    fun m ρ _ => Cert.OntoKernel.Gen.frame m ρ, fun m ρ _ => Cert.OntoKernelIdeal.Gen.frame m ρ, onto_reference,
    fun m ρ _ => Cert.MixedKernel.Gen.frame m ρ, fun m ρ _ => Cert.MixedKernelIdeal.Gen.frame m ρ, mixed_reference,
    fun m ρ _ => Cert.BackKernel.Gen.frame m ρ, fun m ρ _ => Cert.BackKernelIdeal.Gen.frame m ρ, back_reference,
    fun m ρ _ => Cert.DwInKernel.Gen.frame m ρ, fun m ρ _ => Cert.DwInKernelIdeal.Gen.frame m ρ, dwin_reference,
    fun m ρ _ => Cert.DwOutKernel.Gen.frame m ρ, fun m ρ _ => Cert.DwOutKernelIdeal.Gen.frame m ρ, dwout_reference,
    fun m ρ _ => Cert.HeadKernel.Gen.frame m ρ, fun m ρ _ => Cert.HeadKernelIdeal.Gen.frame m ρ, head_reference,
    trivial, fwd_value, trivial, dx_value, trivial, mid_value, trivial, small_value, trivial, hidden_value, trivial, in_value, trivial, out_value,
    trivial, into_value, trivial, onto_value, trivial, mixed_value, trivial, back_value, trivial, dwin_value, trivial, dwout_value, trivial, head_value⟩

end Cert.Proof

end
